-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S16x128 Cert.KernelIdeal.S8x128
  ∧ IdealRules.bf16_pair.PackStatement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x640x7168 : Shape := ⟨3, ![2, 640, 7168]⟩
abbrev S224x18432x2 : Shape := ⟨3, ![224, 18432, 2]⟩
abbrev S28x18432 : Shape := ⟨2, ![28, 18432]⟩
abbrev S256x8 : Shape := ⟨2, ![256, 8]⟩
abbrev S1280x7168 : Shape := ⟨2, ![1280, 7168]⟩
abbrev S224x2x18432 : Shape := ⟨3, ![224, 2, 18432]⟩
abbrev S8x256 : Shape := ⟨2, ![8, 256]⟩
abbrev S1280x18432 : Shape := ⟨2, ![1280, 18432]⟩
abbrev S224x2x256 : Shape := ⟨3, ![224, 2, 256]⟩
abbrev S28x256 : Shape := ⟨2, ![28, 256]⟩
abbrev S1280x512 : Shape := ⟨2, ![1280, 512]⟩
abbrev S7168x256 : Shape := ⟨2, ![7168, 256]⟩
abbrev S224x256 : Shape := ⟨2, ![224, 256]⟩
abbrev S1x256 : Shape := ⟨2, ![1, 256]⟩
abbrev S8x128 : Shape := ⟨2, ![8, 128]⟩
abbrev S8x1x128 : Shape := ⟨3, ![8, 1, 128]⟩
abbrev S1x128 : Shape := ⟨2, ![1, 128]⟩
abbrev S1x1x128 : Shape := ⟨3, ![1, 1, 128]⟩
abbrev S8x128x1 : Shape := ⟨3, ![8, 128, 1]⟩
abbrev S32x128 : Shape := ⟨2, ![32, 128]⟩
abbrev S16x128 : Shape := ⟨2, ![16, 128]⟩
abbrev S1280x256 : Shape := ⟨2, ![1280, 256]⟩

abbrev nBuf : Space → Nat
  | .hbm => 8
  | .vmem => 18
  | .smem => 0
  | _ => 0

abbrev bufTy : (tb : Table) → Fin (tcTables nBuf tb) → BufTy
  | .hbm, ⟨0, _⟩ => ⟨S2x640x7168, .bf16⟩
  | .hbm, ⟨1, _⟩ => ⟨S224x18432x2, .i32⟩
  | .hbm, ⟨2, _⟩ => ⟨S28x18432, .f16⟩
  | .hbm, ⟨3, _⟩ => ⟨S256x8, .i8⟩
  | .hbm, ⟨4, _⟩ => ⟨S1280x7168, .bf16⟩
  | .hbm, ⟨5, _⟩ => ⟨S224x2x18432, .i32⟩
  | .hbm, ⟨6, _⟩ => ⟨S8x256, .i8⟩
  | .hbm, ⟨7, _⟩ => ⟨S1280x18432, .bf16⟩
  | .local _ .vmem, ⟨0, _⟩ => ⟨S1280x7168, .bf16⟩
  | .local _ .vmem, ⟨1, _⟩ => ⟨S224x2x256, .i32⟩
  | .local _ .vmem, ⟨2, _⟩ => ⟨S224x2x256, .i32⟩
  | .local _ .vmem, ⟨3, _⟩ => ⟨S224x2x256, .i32⟩
  | .local _ .vmem, ⟨4, _⟩ => ⟨S224x2x256, .i32⟩
  | .local _ .vmem, ⟨5, _⟩ => ⟨S224x2x256, .i32⟩
  | .local _ .vmem, ⟨6, _⟩ => ⟨S28x256, .f16⟩
  | .local _ .vmem, ⟨7, _⟩ => ⟨S28x256, .f16⟩
  | .local _ .vmem, ⟨8, _⟩ => ⟨S28x256, .f16⟩
  | .local _ .vmem, ⟨9, _⟩ => ⟨S28x256, .f16⟩
  | .local _ .vmem, ⟨10, _⟩ => ⟨S28x256, .f16⟩
  | .local _ .vmem, ⟨11, _⟩ => ⟨S8x256, .i8⟩
  | .local _ .vmem, ⟨12, _⟩ => ⟨S1280x512, .bf16⟩
  | .local _ .vmem, ⟨13, _⟩ => ⟨S1280x512, .bf16⟩
  | .local _ .vmem, ⟨14, _⟩ => ⟨S7168x256, .bf16⟩
  | .local _ .vmem, ⟨15, _⟩ => ⟨S7168x256, .bf16⟩
  | .local _ .vmem, ⟨16, _⟩ => ⟨S224x256, .i32⟩
  | .local _ .vmem, ⟨17, _⟩ => ⟨S224x256, .f32⟩
  | _, _ => ⟨S2x640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨1, ![36], ![false]⟩

def k0_cond1 (i : grid0.Coords) : BitVec 1 :=
  let arg0 : BitVec 32 := BitVec.ofNat 32 (i 0).val
  let c0_i32_4 : BitVec 32 := 0#32
  let v41 : BitVec 1 := Scalar.cmpi .eq arg0 c0_i32_4
  let v42 : BitVec 32 := Scalar.extui v41
  let c0_i32_5 : BitVec 32 := 0#32
  let v43 : BitVec 1 := Scalar.cmpi .ne v42 c0_i32_5
  v43

@[reducible] def k0_t1_loop : Scf.Loop 32 :=
  let c0_i32_40 : BitVec 32 := 0#32
  let c28_i32_41 : BitVec 32 := 28#32
  let v85 : BitVec 32 := Scalar.addi c0_i32_40 c28_i32_41
  let c1_i32_42 : BitVec 32 := 1#32
  ⟨c0_i32_40, v85, c1_i32_42⟩
def k0_mult1 (k0_t1 : Fin k0_t1_loop.trips) : BitVec 32 :=
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let c8_i32_50 : BitVec 32 := 8#32
  let v89 : BitVec 32 := Scalar.muli v88 c8_i32_50
  v89
def k0_off1 (k0_t1 : Fin k0_t1_loop.trips) : Fin 3 → Nat :=
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let c8_i32_50 : BitVec 32 := 8#32
  let v89 : BitVec 32 := Scalar.muli v88 c8_i32_50
  let v90 : BitVec 32 := v89
  let v91 : Index := Scalar.indexCast v90
  let c1 : Index := 1#32
  let c0_51 : Index := 0#32
  ![v91.toNat, 1, 0]
def k0_off2 (k0_t1 : Fin k0_t1_loop.trips) : Fin 2 → Nat :=
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let c8_i32_50 : BitVec 32 := 8#32
  let v89 : BitVec 32 := Scalar.muli v88 c8_i32_50
  let v90 : BitVec 32 := v89
  let v161 : Index := Scalar.indexCast v90
  let c0_65 : Index := 0#32
  ![v161.toNat, 0]
def k0_off3 (k0_t1 : Fin k0_t1_loop.trips) : Fin 2 → Nat :=
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let v168 : Index := Scalar.indexCast v88
  let c0_67 : Index := 0#32
  ![v168.toNat, 0]
@[reducible] def k0_t2_loop : Scf.Loop 32 :=
  let c0_i32_71 : BitVec 32 := 0#32
  let c8_i32_72 : BitVec 32 := 8#32
  let v181 : BitVec 32 := Scalar.addi c0_i32_71 c8_i32_72
  let c1_i32_73 : BitVec 32 := 1#32
  ⟨c0_i32_71, v181, c1_i32_73⟩
def k0_off4 (k0_t1 : Fin k0_t1_loop.trips) (k0_t2 : Fin k0_t2_loop.trips) : Fin 3 → Nat :=
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let c8_i32_77 : BitVec 32 := 8#32
  let v184 : BitVec 32 := Scalar.muli v88 c8_i32_77
  let c0_i32_76 : BitVec 32 := 0#32
  let c0_i32_71 : BitVec 32 := 0#32
  let c1_i32_73 : BitVec 32 := 1#32
  let arg15 : BitVec 32 := Scf.iv c0_i32_71 c1_i32_73 k0_t2
  let c1_i32_75 : BitVec 32 := 1#32
  let v182 : BitVec 32 := Scalar.muli arg15 c1_i32_75
  let v183 : BitVec 32 := Scalar.addi c0_i32_76 v182
  let v185 : BitVec 32 := Scalar.addi v184 v183
  let v186 : Index := Scalar.indexCast v185
  let c0_78 : Index := 0#32
  let c0_79 : Index := 0#32
  ![v186.toNat, 0, 0]
def k0_off5 (k0_t1 : Fin k0_t1_loop.trips) (k0_t2 : Fin k0_t2_loop.trips) : Fin 2 → Nat :=
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let c8_i32_77 : BitVec 32 := 8#32
  let v184 : BitVec 32 := Scalar.muli v88 c8_i32_77
  let c0_i32_76 : BitVec 32 := 0#32
  let c0_i32_71 : BitVec 32 := 0#32
  let c1_i32_73 : BitVec 32 := 1#32
  let arg15 : BitVec 32 := Scf.iv c0_i32_71 c1_i32_73 k0_t2
  let c1_i32_75 : BitVec 32 := 1#32
  let v182 : BitVec 32 := Scalar.muli arg15 c1_i32_75
  let v183 : BitVec 32 := Scalar.addi c0_i32_76 v182
  let v185 : BitVec 32 := Scalar.addi v184 v183
  let v191 : Index := Scalar.indexCast v185
  let c0_80 : Index := 0#32
  ![v191.toNat, 0]
def k0_mult2 (k0_t1 : Fin k0_t1_loop.trips) (k0_t2 : Fin k0_t2_loop.trips) : BitVec 32 :=
  let c32_i32 : BitVec 32 := 32#32
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let c8_i32_77 : BitVec 32 := 8#32
  let v184 : BitVec 32 := Scalar.muli v88 c8_i32_77
  let c0_i32_76 : BitVec 32 := 0#32
  let c0_i32_71 : BitVec 32 := 0#32
  let c1_i32_73 : BitVec 32 := 1#32
  let arg15 : BitVec 32 := Scf.iv c0_i32_71 c1_i32_73 k0_t2
  let c1_i32_75 : BitVec 32 := 1#32
  let v182 : BitVec 32 := Scalar.muli arg15 c1_i32_75
  let v183 : BitVec 32 := Scalar.addi c0_i32_76 v182
  let v185 : BitVec 32 := Scalar.addi v184 v183
  let v253 : BitVec 32 := Scalar.muli c32_i32 v185
  let c0_i32_93 : BitVec 32 := 0#32
  let v254 : BitVec 32 := Scalar.addi v253 c0_i32_93
  v254
def k0_off6 (k0_t1 : Fin k0_t1_loop.trips) (k0_t2 : Fin k0_t2_loop.trips) (c0_i32_93 : BitVec 32) : Fin 2 → Nat :=
  let c32_i32 : BitVec 32 := 32#32
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let c8_i32_77 : BitVec 32 := 8#32
  let v184 : BitVec 32 := Scalar.muli v88 c8_i32_77
  let c0_i32_76 : BitVec 32 := 0#32
  let c0_i32_71 : BitVec 32 := 0#32
  let c1_i32_73 : BitVec 32 := 1#32
  let arg15 : BitVec 32 := Scf.iv c0_i32_71 c1_i32_73 k0_t2
  let c1_i32_75 : BitVec 32 := 1#32
  let v182 : BitVec 32 := Scalar.muli arg15 c1_i32_75
  let v183 : BitVec 32 := Scalar.addi c0_i32_76 v182
  let v185 : BitVec 32 := Scalar.addi v184 v183
  let v253 : BitVec 32 := Scalar.muli c32_i32 v185
  let v254 : BitVec 32 := Scalar.addi v253 c0_i32_93
  let v255 : BitVec 32 := v254
  let v257 : Index := Scalar.indexCast v255
  let c0_94 : Index := 0#32
  ![v257.toNat, 0]
def k0_mult3 (k0_t1 : Fin k0_t1_loop.trips) (k0_t2 : Fin k0_t2_loop.trips) : BitVec 32 :=
  let c32_i32_104 : BitVec 32 := 32#32
  let c0_i32_49 : BitVec 32 := 0#32
  let c0_i32_40 : BitVec 32 := 0#32
  let c1_i32_42 : BitVec 32 := 1#32
  let arg14 : BitVec 32 := Scf.iv c0_i32_40 c1_i32_42 k0_t1
  let c1_i32_48 : BitVec 32 := 1#32
  let v87 : BitVec 32 := Scalar.muli arg14 c1_i32_48
  let v88 : BitVec 32 := Scalar.addi c0_i32_49 v87
  let c8_i32_77 : BitVec 32 := 8#32
  let v184 : BitVec 32 := Scalar.muli v88 c8_i32_77
  let c0_i32_76 : BitVec 32 := 0#32
  let c0_i32_71 : BitVec 32 := 0#32
  let c1_i32_73 : BitVec 32 := 1#32
  let arg15 : BitVec 32 := Scf.iv c0_i32_71 c1_i32_73 k0_t2
  let c1_i32_75 : BitVec 32 := 1#32
  let v182 : BitVec 32 := Scalar.muli arg15 c1_i32_75
  let v183 : BitVec 32 := Scalar.addi c0_i32_76 v182
  let v185 : BitVec 32 := Scalar.addi v184 v183
  let v289 : BitVec 32 := Scalar.muli c32_i32_104 v185
  let c16_i32_105 : BitVec 32 := 16#32
  let v290 : BitVec 32 := Scalar.addi v289 c16_i32_105
  v290
@[reducible] def k0_t3_loop : Scf.Loop 32 :=
  let c0_i32_44 : BitVec 32 := 0#32
  let c28_i32_45 : BitVec 32 := 28#32
  let v86 : BitVec 32 := Scalar.addi c0_i32_44 c28_i32_45
  let c1_i32_46 : BitVec 32 := 1#32
  ⟨c0_i32_44, v86, c1_i32_46⟩
def k0_mult4 (k0_t3 : Fin k0_t3_loop.trips) : BitVec 32 :=
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let c8_i32_50 : BitVec 32 := 8#32
  let v89 : BitVec 32 := Scalar.muli v88 c8_i32_50
  v89
def k0_off7 (k0_t3 : Fin k0_t3_loop.trips) : Fin 3 → Nat :=
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let c8_i32_50 : BitVec 32 := 8#32
  let v89 : BitVec 32 := Scalar.muli v88 c8_i32_50
  let v90 : BitVec 32 := v89
  let v91 : Index := Scalar.indexCast v90
  let c1 : Index := 1#32
  let c128 : Index := 128#32
  ![v91.toNat, 1, 128]
def k0_off8 (k0_t3 : Fin k0_t3_loop.trips) : Fin 2 → Nat :=
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let c8_i32_50 : BitVec 32 := 8#32
  let v89 : BitVec 32 := Scalar.muli v88 c8_i32_50
  let v90 : BitVec 32 := v89
  let v161 : Index := Scalar.indexCast v90
  let c128_64 : Index := 128#32
  ![v161.toNat, 128]
def k0_off9 (k0_t3 : Fin k0_t3_loop.trips) : Fin 2 → Nat :=
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let v168 : Index := Scalar.indexCast v88
  let c128_66 : Index := 128#32
  ![v168.toNat, 128]
@[reducible] def k0_t4_loop : Scf.Loop 32 :=
  let c0_i32_70 : BitVec 32 := 0#32
  let c8_i32_71 : BitVec 32 := 8#32
  let v181 : BitVec 32 := Scalar.addi c0_i32_70 c8_i32_71
  let c1_i32_72 : BitVec 32 := 1#32
  ⟨c0_i32_70, v181, c1_i32_72⟩
def k0_off10 (k0_t3 : Fin k0_t3_loop.trips) (k0_t4 : Fin k0_t4_loop.trips) : Fin 3 → Nat :=
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let c8_i32_76 : BitVec 32 := 8#32
  let v184 : BitVec 32 := Scalar.muli v88 c8_i32_76
  let c0_i32_75 : BitVec 32 := 0#32
  let c0_i32_70 : BitVec 32 := 0#32
  let c1_i32_72 : BitVec 32 := 1#32
  let arg15 : BitVec 32 := Scf.iv c0_i32_70 c1_i32_72 k0_t4
  let c1_i32_74 : BitVec 32 := 1#32
  let v182 : BitVec 32 := Scalar.muli arg15 c1_i32_74
  let v183 : BitVec 32 := Scalar.addi c0_i32_75 v182
  let v185 : BitVec 32 := Scalar.addi v184 v183
  let v186 : Index := Scalar.indexCast v185
  let c0_77 : Index := 0#32
  let c128_78 : Index := 128#32
  ![v186.toNat, 0, 128]
def k0_off11 (k0_t3 : Fin k0_t3_loop.trips) (k0_t4 : Fin k0_t4_loop.trips) : Fin 2 → Nat :=
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let c8_i32_76 : BitVec 32 := 8#32
  let v184 : BitVec 32 := Scalar.muli v88 c8_i32_76
  let c0_i32_75 : BitVec 32 := 0#32
  let c0_i32_70 : BitVec 32 := 0#32
  let c1_i32_72 : BitVec 32 := 1#32
  let arg15 : BitVec 32 := Scf.iv c0_i32_70 c1_i32_72 k0_t4
  let c1_i32_74 : BitVec 32 := 1#32
  let v182 : BitVec 32 := Scalar.muli arg15 c1_i32_74
  let v183 : BitVec 32 := Scalar.addi c0_i32_75 v182
  let v185 : BitVec 32 := Scalar.addi v184 v183
  let v191 : Index := Scalar.indexCast v185
  let c128_79 : Index := 128#32
  ![v191.toNat, 128]
def k0_mult5 (k0_t3 : Fin k0_t3_loop.trips) (k0_t4 : Fin k0_t4_loop.trips) : BitVec 32 :=
  let c32_i32 : BitVec 32 := 32#32
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let c8_i32_76 : BitVec 32 := 8#32
  let v184 : BitVec 32 := Scalar.muli v88 c8_i32_76
  let c0_i32_75 : BitVec 32 := 0#32
  let c0_i32_70 : BitVec 32 := 0#32
  let c1_i32_72 : BitVec 32 := 1#32
  let arg15 : BitVec 32 := Scf.iv c0_i32_70 c1_i32_72 k0_t4
  let c1_i32_74 : BitVec 32 := 1#32
  let v182 : BitVec 32 := Scalar.muli arg15 c1_i32_74
  let v183 : BitVec 32 := Scalar.addi c0_i32_75 v182
  let v185 : BitVec 32 := Scalar.addi v184 v183
  let v253 : BitVec 32 := Scalar.muli c32_i32 v185
  let c0_i32_92 : BitVec 32 := 0#32
  let v254 : BitVec 32 := Scalar.addi v253 c0_i32_92
  v254
def k0_off12 (k0_t3 : Fin k0_t3_loop.trips) (k0_t4 : Fin k0_t4_loop.trips) (c0_i32_92 : BitVec 32) : Fin 2 → Nat :=
  let c32_i32 : BitVec 32 := 32#32
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let c8_i32_76 : BitVec 32 := 8#32
  let v184 : BitVec 32 := Scalar.muli v88 c8_i32_76
  let c0_i32_75 : BitVec 32 := 0#32
  let c0_i32_70 : BitVec 32 := 0#32
  let c1_i32_72 : BitVec 32 := 1#32
  let arg15 : BitVec 32 := Scf.iv c0_i32_70 c1_i32_72 k0_t4
  let c1_i32_74 : BitVec 32 := 1#32
  let v182 : BitVec 32 := Scalar.muli arg15 c1_i32_74
  let v183 : BitVec 32 := Scalar.addi c0_i32_75 v182
  let v185 : BitVec 32 := Scalar.addi v184 v183
  let v253 : BitVec 32 := Scalar.muli c32_i32 v185
  let v254 : BitVec 32 := Scalar.addi v253 c0_i32_92
  let v255 : BitVec 32 := v254
  let v257 : Index := Scalar.indexCast v255
  let c128_93 : Index := 128#32
  ![v257.toNat, 128]
def k0_mult6 (k0_t3 : Fin k0_t3_loop.trips) (k0_t4 : Fin k0_t4_loop.trips) : BitVec 32 :=
  let c32_i32_103 : BitVec 32 := 32#32
  let c0_i32_49 : BitVec 32 := 0#32
  let c0_i32_44 : BitVec 32 := 0#32
  let c1_i32_46 : BitVec 32 := 1#32
  let arg14 : BitVec 32 := Scf.iv c0_i32_44 c1_i32_46 k0_t3
  let c1_i32_48 : BitVec 32 := 1#32
  let v87 : BitVec 32 := Scalar.muli arg14 c1_i32_48
  let v88 : BitVec 32 := Scalar.addi c0_i32_49 v87
  let c8_i32_76 : BitVec 32 := 8#32
  let v184 : BitVec 32 := Scalar.muli v88 c8_i32_76
  let c0_i32_75 : BitVec 32 := 0#32
  let c0_i32_70 : BitVec 32 := 0#32
  let c1_i32_72 : BitVec 32 := 1#32
  let arg15 : BitVec 32 := Scf.iv c0_i32_70 c1_i32_72 k0_t4
  let c1_i32_74 : BitVec 32 := 1#32
  let v182 : BitVec 32 := Scalar.muli arg15 c1_i32_74
  let v183 : BitVec 32 := Scalar.addi c0_i32_75 v182
  let v185 : BitVec 32 := Scalar.addi v184 v183
  let v289 : BitVec 32 := Scalar.muli c32_i32_103 v185
  let c16_i32_104 : BitVec 32 := 16#32
  let v290 : BitVec 32 := Scalar.addi v289 c16_i32_104
  v290
@[reducible] def k0_t5_loop : Scf.Loop 32 :=
  let c0_i32_13 : BitVec 32 := 0#32
  let c28_i32 : BitVec 32 := 28#32
  let v59 : BitVec 32 := Scalar.addi c0_i32_13 c28_i32
  let c1_i32_14 : BitVec 32 := 1#32
  ⟨c0_i32_13, v59, c1_i32_14⟩
def k0_mult7 (k0_t5 : Fin k0_t5_loop.trips) : BitVec 32 :=
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  v78
def k0_off13 (k0_t5 : Fin k0_t5_loop.trips) : Fin 3 → Nat :=
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  let v79 : BitVec 32 := v78
  let v80 : Index := Scalar.indexCast v79
  let c1 : Index := 1#32
  let c0_39 : Index := 0#32
  ![v80.toNat, 1, 0]
def k0_off14 (k0_t5 : Fin k0_t5_loop.trips) : Fin 2 → Nat :=
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  let v79 : BitVec 32 := v78
  let v150 : Index := Scalar.indexCast v79
  let c0_53 : Index := 0#32
  ![v150.toNat, 0]
def k0_off15 (k0_t5 : Fin k0_t5_loop.trips) : Fin 2 → Nat :=
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let v157 : Index := Scalar.indexCast v77
  let c0_55 : Index := 0#32
  ![v157.toNat, 0]
@[reducible] def k0_t6_loop : Scf.Loop 32 :=
  let c0_i32_59 : BitVec 32 := 0#32
  let c8_i32_60 : BitVec 32 := 8#32
  let v170 : BitVec 32 := Scalar.addi c0_i32_59 c8_i32_60
  let c1_i32_61 : BitVec 32 := 1#32
  ⟨c0_i32_59, v170, c1_i32_61⟩
def k0_off16 (k0_t5 : Fin k0_t5_loop.trips) (k0_t6 : Fin k0_t6_loop.trips) : Fin 3 → Nat :=
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t6
  let c1_i32_63 : BitVec 32 := 1#32
  let v171 : BitVec 32 := Scalar.muli arg15 c1_i32_63
  let v172 : BitVec 32 := Scalar.addi c0_i32_64 v171
  let v174 : BitVec 32 := Scalar.addi v173 v172
  let v175 : Index := Scalar.indexCast v174
  let c0_66 : Index := 0#32
  let c0_67 : Index := 0#32
  ![v175.toNat, 0, 0]
def k0_off17 (k0_t5 : Fin k0_t5_loop.trips) (k0_t6 : Fin k0_t6_loop.trips) : Fin 2 → Nat :=
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t6
  let c1_i32_63 : BitVec 32 := 1#32
  let v171 : BitVec 32 := Scalar.muli arg15 c1_i32_63
  let v172 : BitVec 32 := Scalar.addi c0_i32_64 v171
  let v174 : BitVec 32 := Scalar.addi v173 v172
  let v180 : Index := Scalar.indexCast v174
  let c0_68 : Index := 0#32
  ![v180.toNat, 0]
def k0_mult8 (k0_t5 : Fin k0_t5_loop.trips) (k0_t6 : Fin k0_t6_loop.trips) : BitVec 32 :=
  let c32_i32 : BitVec 32 := 32#32
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t6
  let c1_i32_63 : BitVec 32 := 1#32
  let v171 : BitVec 32 := Scalar.muli arg15 c1_i32_63
  let v172 : BitVec 32 := Scalar.addi c0_i32_64 v171
  let v174 : BitVec 32 := Scalar.addi v173 v172
  let v242 : BitVec 32 := Scalar.muli c32_i32 v174
  let c0_i32_81 : BitVec 32 := 0#32
  let v243 : BitVec 32 := Scalar.addi v242 c0_i32_81
  v243
def k0_off18 (k0_t5 : Fin k0_t5_loop.trips) (k0_t6 : Fin k0_t6_loop.trips) (c0_i32_81 : BitVec 32) : Fin 2 → Nat :=
  let c32_i32 : BitVec 32 := 32#32
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t6
  let c1_i32_63 : BitVec 32 := 1#32
  let v171 : BitVec 32 := Scalar.muli arg15 c1_i32_63
  let v172 : BitVec 32 := Scalar.addi c0_i32_64 v171
  let v174 : BitVec 32 := Scalar.addi v173 v172
  let v242 : BitVec 32 := Scalar.muli c32_i32 v174
  let v243 : BitVec 32 := Scalar.addi v242 c0_i32_81
  let v244 : BitVec 32 := v243
  let v246 : Index := Scalar.indexCast v244
  let c0_82 : Index := 0#32
  ![v246.toNat, 0]
def k0_mult9 (k0_t5 : Fin k0_t5_loop.trips) (k0_t6 : Fin k0_t6_loop.trips) : BitVec 32 :=
  let c32_i32_92 : BitVec 32 := 32#32
  let c0_i32_37 : BitVec 32 := 0#32
  let c0_i32_13 : BitVec 32 := 0#32
  let c1_i32_14 : BitVec 32 := 1#32
  let arg14 : BitVec 32 := Scf.iv c0_i32_13 c1_i32_14 k0_t5
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t6
  let c1_i32_63 : BitVec 32 := 1#32
  let v171 : BitVec 32 := Scalar.muli arg15 c1_i32_63
  let v172 : BitVec 32 := Scalar.addi c0_i32_64 v171
  let v174 : BitVec 32 := Scalar.addi v173 v172
  let v278 : BitVec 32 := Scalar.muli c32_i32_92 v174
  let c16_i32_93 : BitVec 32 := 16#32
  let v279 : BitVec 32 := Scalar.addi v278 c16_i32_93
  v279
@[reducible] def k0_t7_loop : Scf.Loop 32 :=
  let c0_i32_16 : BitVec 32 := 0#32
  let c28_i32_17 : BitVec 32 := 28#32
  let v60 : BitVec 32 := Scalar.addi c0_i32_16 c28_i32_17
  let c1_i32_18 : BitVec 32 := 1#32
  ⟨c0_i32_16, v60, c1_i32_18⟩
def k0_mult10 (k0_t7 : Fin k0_t7_loop.trips) : BitVec 32 :=
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  v78
def k0_off19 (k0_t7 : Fin k0_t7_loop.trips) : Fin 3 → Nat :=
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  let v79 : BitVec 32 := v78
  let v80 : Index := Scalar.indexCast v79
  let c1 : Index := 1#32
  let c128 : Index := 128#32
  ![v80.toNat, 1, 128]
def k0_off20 (k0_t7 : Fin k0_t7_loop.trips) : Fin 2 → Nat :=
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  let v79 : BitVec 32 := v78
  let v150 : Index := Scalar.indexCast v79
  let c128_52 : Index := 128#32
  ![v150.toNat, 128]
def k0_off21 (k0_t7 : Fin k0_t7_loop.trips) : Fin 2 → Nat :=
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let v157 : Index := Scalar.indexCast v77
  let c128_54 : Index := 128#32
  ![v157.toNat, 128]
@[reducible] def k0_t8_loop : Scf.Loop 32 :=
  let c0_i32_58 : BitVec 32 := 0#32
  let c8_i32_59 : BitVec 32 := 8#32
  let v170 : BitVec 32 := Scalar.addi c0_i32_58 c8_i32_59
  let c1_i32_60 : BitVec 32 := 1#32
  ⟨c0_i32_58, v170, c1_i32_60⟩
def k0_off22 (k0_t7 : Fin k0_t7_loop.trips) (k0_t8 : Fin k0_t8_loop.trips) : Fin 3 → Nat :=
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t8
  let c1_i32_62 : BitVec 32 := 1#32
  let v171 : BitVec 32 := Scalar.muli arg15 c1_i32_62
  let v172 : BitVec 32 := Scalar.addi c0_i32_63 v171
  let v174 : BitVec 32 := Scalar.addi v173 v172
  let v175 : Index := Scalar.indexCast v174
  let c0_65 : Index := 0#32
  let c128_66 : Index := 128#32
  ![v175.toNat, 0, 128]
def k0_off23 (k0_t7 : Fin k0_t7_loop.trips) (k0_t8 : Fin k0_t8_loop.trips) : Fin 2 → Nat :=
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t8
  let c1_i32_62 : BitVec 32 := 1#32
  let v171 : BitVec 32 := Scalar.muli arg15 c1_i32_62
  let v172 : BitVec 32 := Scalar.addi c0_i32_63 v171
  let v174 : BitVec 32 := Scalar.addi v173 v172
  let v180 : Index := Scalar.indexCast v174
  let c128_67 : Index := 128#32
  ![v180.toNat, 128]
def k0_mult11 (k0_t7 : Fin k0_t7_loop.trips) (k0_t8 : Fin k0_t8_loop.trips) : BitVec 32 :=
  let c32_i32 : BitVec 32 := 32#32
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t8
  let c1_i32_62 : BitVec 32 := 1#32
  let v171 : BitVec 32 := Scalar.muli arg15 c1_i32_62
  let v172 : BitVec 32 := Scalar.addi c0_i32_63 v171
  let v174 : BitVec 32 := Scalar.addi v173 v172
  let v242 : BitVec 32 := Scalar.muli c32_i32 v174
  let c0_i32_80 : BitVec 32 := 0#32
  let v243 : BitVec 32 := Scalar.addi v242 c0_i32_80
  v243
def k0_off24 (k0_t7 : Fin k0_t7_loop.trips) (k0_t8 : Fin k0_t8_loop.trips) (c0_i32_80 : BitVec 32) : Fin 2 → Nat :=
  let c32_i32 : BitVec 32 := 32#32
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t8
  let c1_i32_62 : BitVec 32 := 1#32
  let v171 : BitVec 32 := Scalar.muli arg15 c1_i32_62
  let v172 : BitVec 32 := Scalar.addi c0_i32_63 v171
  let v174 : BitVec 32 := Scalar.addi v173 v172
  let v242 : BitVec 32 := Scalar.muli c32_i32 v174
  let v243 : BitVec 32 := Scalar.addi v242 c0_i32_80
  let v244 : BitVec 32 := v243
  let v246 : Index := Scalar.indexCast v244
  let c128_81 : Index := 128#32
  ![v246.toNat, 128]
def k0_mult12 (k0_t7 : Fin k0_t7_loop.trips) (k0_t8 : Fin k0_t8_loop.trips) : BitVec 32 :=
  let c32_i32_91 : BitVec 32 := 32#32
  let c0_i32_37 : BitVec 32 := 0#32
  let c0_i32_16 : BitVec 32 := 0#32
  let c1_i32_18 : BitVec 32 := 1#32
  let arg14 : BitVec 32 := Scf.iv c0_i32_16 c1_i32_18 k0_t7
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t8
  let c1_i32_62 : BitVec 32 := 1#32
  let v171 : BitVec 32 := Scalar.muli arg15 c1_i32_62
  let v172 : BitVec 32 := Scalar.addi c0_i32_63 v171
  let v174 : BitVec 32 := Scalar.addi v173 v172
  let v278 : BitVec 32 := Scalar.muli c32_i32_91 v174
  let c16_i32_92 : BitVec 32 := 16#32
  let v279 : BitVec 32 := Scalar.addi v278 c16_i32_92
  v279
@[reducible] def k0_t9_loop : Scf.Loop 32 :=
  let c0_i32_28 : BitVec 32 := 0#32
  let c28_i32_29 : BitVec 32 := 28#32
  let v74 : BitVec 32 := Scalar.addi c0_i32_28 c28_i32_29
  let c1_i32_30 : BitVec 32 := 1#32
  ⟨c0_i32_28, v74, c1_i32_30⟩
def k0_mult13 (k0_t9 : Fin k0_t9_loop.trips) : BitVec 32 :=
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  v78
def k0_off25 (k0_t9 : Fin k0_t9_loop.trips) : Fin 3 → Nat :=
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  let v79 : BitVec 32 := v78
  let v80 : Index := Scalar.indexCast v79
  let c1 : Index := 1#32
  let c0_39 : Index := 0#32
  ![v80.toNat, 1, 0]
def k0_off26 (k0_t9 : Fin k0_t9_loop.trips) : Fin 2 → Nat :=
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  let v79 : BitVec 32 := v78
  let v150 : Index := Scalar.indexCast v79
  let c0_53 : Index := 0#32
  ![v150.toNat, 0]
def k0_off27 (k0_t9 : Fin k0_t9_loop.trips) : Fin 2 → Nat :=
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let v157 : Index := Scalar.indexCast v77
  let c0_55 : Index := 0#32
  ![v157.toNat, 0]
@[reducible] def k0_t10_loop : Scf.Loop 32 :=
  let c0_i32_59 : BitVec 32 := 0#32
  let c8_i32_60 : BitVec 32 := 8#32
  let v170 : BitVec 32 := Scalar.addi c0_i32_59 c8_i32_60
  let c1_i32_61 : BitVec 32 := 1#32
  ⟨c0_i32_59, v170, c1_i32_61⟩
def k0_off28 (k0_t9 : Fin k0_t9_loop.trips) (k0_t10 : Fin k0_t10_loop.trips) : Fin 3 → Nat :=
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t10
  let c1_i32_63 : BitVec 32 := 1#32
  let v171 : BitVec 32 := Scalar.muli arg15 c1_i32_63
  let v172 : BitVec 32 := Scalar.addi c0_i32_64 v171
  let v174 : BitVec 32 := Scalar.addi v173 v172
  let v175 : Index := Scalar.indexCast v174
  let c0_66 : Index := 0#32
  let c0_67 : Index := 0#32
  ![v175.toNat, 0, 0]
def k0_off29 (k0_t9 : Fin k0_t9_loop.trips) (k0_t10 : Fin k0_t10_loop.trips) : Fin 2 → Nat :=
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t10
  let c1_i32_63 : BitVec 32 := 1#32
  let v171 : BitVec 32 := Scalar.muli arg15 c1_i32_63
  let v172 : BitVec 32 := Scalar.addi c0_i32_64 v171
  let v174 : BitVec 32 := Scalar.addi v173 v172
  let v180 : Index := Scalar.indexCast v174
  let c0_68 : Index := 0#32
  ![v180.toNat, 0]
def k0_mult14 (k0_t9 : Fin k0_t9_loop.trips) (k0_t10 : Fin k0_t10_loop.trips) : BitVec 32 :=
  let c32_i32 : BitVec 32 := 32#32
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t10
  let c1_i32_63 : BitVec 32 := 1#32
  let v171 : BitVec 32 := Scalar.muli arg15 c1_i32_63
  let v172 : BitVec 32 := Scalar.addi c0_i32_64 v171
  let v174 : BitVec 32 := Scalar.addi v173 v172
  let v242 : BitVec 32 := Scalar.muli c32_i32 v174
  let c0_i32_81 : BitVec 32 := 0#32
  let v243 : BitVec 32 := Scalar.addi v242 c0_i32_81
  v243
def k0_off30 (k0_t9 : Fin k0_t9_loop.trips) (k0_t10 : Fin k0_t10_loop.trips) (c0_i32_81 : BitVec 32) : Fin 2 → Nat :=
  let c32_i32 : BitVec 32 := 32#32
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t10
  let c1_i32_63 : BitVec 32 := 1#32
  let v171 : BitVec 32 := Scalar.muli arg15 c1_i32_63
  let v172 : BitVec 32 := Scalar.addi c0_i32_64 v171
  let v174 : BitVec 32 := Scalar.addi v173 v172
  let v242 : BitVec 32 := Scalar.muli c32_i32 v174
  let v243 : BitVec 32 := Scalar.addi v242 c0_i32_81
  let v244 : BitVec 32 := v243
  let v246 : Index := Scalar.indexCast v244
  let c0_82 : Index := 0#32
  ![v246.toNat, 0]
def k0_mult15 (k0_t9 : Fin k0_t9_loop.trips) (k0_t10 : Fin k0_t10_loop.trips) : BitVec 32 :=
  let c32_i32_92 : BitVec 32 := 32#32
  let c0_i32_37 : BitVec 32 := 0#32
  let c0_i32_28 : BitVec 32 := 0#32
  let c1_i32_30 : BitVec 32 := 1#32
  let arg14 : BitVec 32 := Scf.iv c0_i32_28 c1_i32_30 k0_t9
  let c1_i32_36 : BitVec 32 := 1#32
  let v76 : BitVec 32 := Scalar.muli arg14 c1_i32_36
  let v77 : BitVec 32 := Scalar.addi c0_i32_37 v76
  let c8_i32_65 : BitVec 32 := 8#32
  let v173 : BitVec 32 := Scalar.muli v77 c8_i32_65
  let c0_i32_64 : BitVec 32 := 0#32
  let c0_i32_59 : BitVec 32 := 0#32
  let c1_i32_61 : BitVec 32 := 1#32
  let arg15 : BitVec 32 := Scf.iv c0_i32_59 c1_i32_61 k0_t10
  let c1_i32_63 : BitVec 32 := 1#32
  let v171 : BitVec 32 := Scalar.muli arg15 c1_i32_63
  let v172 : BitVec 32 := Scalar.addi c0_i32_64 v171
  let v174 : BitVec 32 := Scalar.addi v173 v172
  let v278 : BitVec 32 := Scalar.muli c32_i32_92 v174
  let c16_i32_93 : BitVec 32 := 16#32
  let v279 : BitVec 32 := Scalar.addi v278 c16_i32_93
  v279
@[reducible] def k0_t11_loop : Scf.Loop 32 :=
  let c0_i32_32 : BitVec 32 := 0#32
  let c28_i32_33 : BitVec 32 := 28#32
  let v75 : BitVec 32 := Scalar.addi c0_i32_32 c28_i32_33
  let c1_i32_34 : BitVec 32 := 1#32
  ⟨c0_i32_32, v75, c1_i32_34⟩
def k0_mult16 (k0_t11 : Fin k0_t11_loop.trips) : BitVec 32 :=
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  v78
def k0_off31 (k0_t11 : Fin k0_t11_loop.trips) : Fin 3 → Nat :=
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  let v79 : BitVec 32 := v78
  let v80 : Index := Scalar.indexCast v79
  let c1 : Index := 1#32
  let c128 : Index := 128#32
  ![v80.toNat, 1, 128]
def k0_off32 (k0_t11 : Fin k0_t11_loop.trips) : Fin 2 → Nat :=
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let c8_i32_38 : BitVec 32 := 8#32
  let v78 : BitVec 32 := Scalar.muli v77 c8_i32_38
  let v79 : BitVec 32 := v78
  let v150 : Index := Scalar.indexCast v79
  let c128_52 : Index := 128#32
  ![v150.toNat, 128]
def k0_off33 (k0_t11 : Fin k0_t11_loop.trips) : Fin 2 → Nat :=
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let v157 : Index := Scalar.indexCast v77
  let c128_54 : Index := 128#32
  ![v157.toNat, 128]
@[reducible] def k0_t12_loop : Scf.Loop 32 :=
  let c0_i32_58 : BitVec 32 := 0#32
  let c8_i32_59 : BitVec 32 := 8#32
  let v170 : BitVec 32 := Scalar.addi c0_i32_58 c8_i32_59
  let c1_i32_60 : BitVec 32 := 1#32
  ⟨c0_i32_58, v170, c1_i32_60⟩
def k0_off34 (k0_t11 : Fin k0_t11_loop.trips) (k0_t12 : Fin k0_t12_loop.trips) : Fin 3 → Nat :=
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t12
  let c1_i32_62 : BitVec 32 := 1#32
  let v171 : BitVec 32 := Scalar.muli arg15 c1_i32_62
  let v172 : BitVec 32 := Scalar.addi c0_i32_63 v171
  let v174 : BitVec 32 := Scalar.addi v173 v172
  let v175 : Index := Scalar.indexCast v174
  let c0_65 : Index := 0#32
  let c128_66 : Index := 128#32
  ![v175.toNat, 0, 128]
def k0_off35 (k0_t11 : Fin k0_t11_loop.trips) (k0_t12 : Fin k0_t12_loop.trips) : Fin 2 → Nat :=
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t12
  let c1_i32_62 : BitVec 32 := 1#32
  let v171 : BitVec 32 := Scalar.muli arg15 c1_i32_62
  let v172 : BitVec 32 := Scalar.addi c0_i32_63 v171
  let v174 : BitVec 32 := Scalar.addi v173 v172
  let v180 : Index := Scalar.indexCast v174
  let c128_67 : Index := 128#32
  ![v180.toNat, 128]
def k0_mult17 (k0_t11 : Fin k0_t11_loop.trips) (k0_t12 : Fin k0_t12_loop.trips) : BitVec 32 :=
  let c32_i32 : BitVec 32 := 32#32
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t12
  let c1_i32_62 : BitVec 32 := 1#32
  let v171 : BitVec 32 := Scalar.muli arg15 c1_i32_62
  let v172 : BitVec 32 := Scalar.addi c0_i32_63 v171
  let v174 : BitVec 32 := Scalar.addi v173 v172
  let v242 : BitVec 32 := Scalar.muli c32_i32 v174
  let c0_i32_80 : BitVec 32 := 0#32
  let v243 : BitVec 32 := Scalar.addi v242 c0_i32_80
  v243
def k0_off36 (k0_t11 : Fin k0_t11_loop.trips) (k0_t12 : Fin k0_t12_loop.trips) (c0_i32_80 : BitVec 32) : Fin 2 → Nat :=
  let c32_i32 : BitVec 32 := 32#32
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t12
  let c1_i32_62 : BitVec 32 := 1#32
  let v171 : BitVec 32 := Scalar.muli arg15 c1_i32_62
  let v172 : BitVec 32 := Scalar.addi c0_i32_63 v171
  let v174 : BitVec 32 := Scalar.addi v173 v172
  let v242 : BitVec 32 := Scalar.muli c32_i32 v174
  let v243 : BitVec 32 := Scalar.addi v242 c0_i32_80
  let v244 : BitVec 32 := v243
  let v246 : Index := Scalar.indexCast v244
  let c128_81 : Index := 128#32
  ![v246.toNat, 128]
def k0_mult18 (k0_t11 : Fin k0_t11_loop.trips) (k0_t12 : Fin k0_t12_loop.trips) : BitVec 32 :=
  let c32_i32_91 : BitVec 32 := 32#32
  let c0_i32_37 : BitVec 32 := 0#32
  let c0_i32_32 : BitVec 32 := 0#32
  let c1_i32_34 : BitVec 32 := 1#32
  let arg14 : BitVec 32 := Scf.iv c0_i32_32 c1_i32_34 k0_t11
  let c1_i32_36 : BitVec 32 := 1#32
  let v76 : BitVec 32 := Scalar.muli arg14 c1_i32_36
  let v77 : BitVec 32 := Scalar.addi c0_i32_37 v76
  let c8_i32_64 : BitVec 32 := 8#32
  let v173 : BitVec 32 := Scalar.muli v77 c8_i32_64
  let c0_i32_63 : BitVec 32 := 0#32
  let c0_i32_58 : BitVec 32 := 0#32
  let c1_i32_60 : BitVec 32 := 1#32
  let arg15 : BitVec 32 := Scf.iv c0_i32_58 c1_i32_60 k0_t12
  let c1_i32_62 : BitVec 32 := 1#32
  let v171 : BitVec 32 := Scalar.muli arg15 c1_i32_62
  let v172 : BitVec 32 := Scalar.addi c0_i32_63 v171
  let v174 : BitVec 32 := Scalar.addi v173 v172
  let v278 : BitVec 32 := Scalar.muli c32_i32_91 v174
  let c16_i32_92 : BitVec 32 := 16#32
  let v279 : BitVec 32 := Scalar.addi v278 c16_i32_92
  v279
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c71_i32 : BitVec 32 := 71#32
  let v2 : BitVec 32 := Scalar.minsi v1 c71_i32
  let c0_i32 : BitVec 32 := 0#32
  let c0_i32_0 : BitVec 32 := 0#32
  let c0_i32_1 : BitVec 32 := 0#32
  ![c0_i32.toNat, c0_i32_0.toNat, v2.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c71_i32 : BitVec 32 := 71#32
  let v2 : BitVec 32 := Scalar.minsi v1 c71_i32
  let c0_i32 : BitVec 32 := 0#32
  let c0_i32_1 : BitVec 32 := 0#32
  let c0_i32_2 : BitVec 32 := 0#32
  ![c0_i32.toNat, c0_i32_1.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c71_i32 : BitVec 32 := 71#32
  let v2 : BitVec 32 := Scalar.minsi v1 c71_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c71_i32 : BitVec 32 := 71#32
  let v2 : BitVec 32 := Scalar.minsi v1 c71_i32
  let c0_i32 : BitVec 32 := 0#32
  let c0_i32_1 : BitVec 32 := 0#32
  ![c0_i32.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1280x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S224x2x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S224x2x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x2x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S28x256 .f16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S28x256 .f16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S28x256 .f16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x256 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1280x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F]
-- ==== ReferenceIdeal.lean ====
abbrev S2x640x7168 : Shape := ⟨3, ![2, 640, 7168]⟩
abbrev S224x18432x2 : Shape := ⟨3, ![224, 18432, 2]⟩
abbrev S28x18432 : Shape := ⟨2, ![28, 18432]⟩
abbrev S256x8 : Shape := ⟨2, ![256, 8]⟩
abbrev S224x18432x1 : Shape := ⟨3, ![224, 18432, 1]⟩
abbrev S224x18432 : Shape := ⟨2, ![224, 18432]⟩
abbrev S_ : Shape := ⟨0, ![]⟩
abbrev S4 : Shape := ⟨1, ![4]⟩
abbrev S1x4x1 : Shape := ⟨3, ![1, 4, 1]⟩
abbrev S224x1x18432 : Shape := ⟨3, ![224, 1, 18432]⟩
abbrev S224x4x18432 : Shape := ⟨3, ![224, 4, 18432]⟩
abbrev S224x4x18432x1 : Shape := ⟨4, ![224, 4, 18432, 1]⟩
abbrev S224x4x18432x8 : Shape := ⟨4, ![224, 4, 18432, 8]⟩
abbrev S224x4x8x18432 : Shape := ⟨4, ![224, 4, 8, 18432]⟩
abbrev S8 : Shape := ⟨1, ![8]⟩
abbrev S1x1x8x1 : Shape := ⟨4, ![1, 1, 8, 1]⟩
abbrev S224x4x1x18432 : Shape := ⟨4, ![224, 4, 1, 18432]⟩
abbrev S1280x7168 : Shape := ⟨2, ![1280, 7168]⟩
abbrev S224x32x18432 : Shape := ⟨3, ![224, 32, 18432]⟩
abbrev S1280x18432 : Shape := ⟨2, ![1280, 18432]⟩
abbrev S28x1x18432 : Shape := ⟨3, ![28, 1, 18432]⟩
abbrev S28x8x18432 : Shape := ⟨3, ![28, 8, 18432]⟩
abbrev S7168x18432 : Shape := ⟨2, ![7168, 18432]⟩

abbrev nBuf : Space → Nat
  | .hbm => 64
  | .vmem => 6
  | .smem => 0
  | _ => 0

abbrev bufTy : (tb : Table) → Fin (tcTables nBuf tb) → BufTy
  | .hbm, ⟨0, _⟩ => ⟨S2x640x7168, .bf16⟩
  | .hbm, ⟨1, _⟩ => ⟨S224x18432x2, .i32⟩
  | .hbm, ⟨2, _⟩ => ⟨S28x18432, .f16⟩
  | .hbm, ⟨3, _⟩ => ⟨S256x8, .i8⟩
  | .hbm, ⟨4, _⟩ => ⟨S224x18432x1, .i32⟩
  | .hbm, ⟨5, _⟩ => ⟨S224x18432, .i32⟩
  | .hbm, ⟨6, _⟩ => ⟨S224x18432x1, .i32⟩
  | .hbm, ⟨7, _⟩ => ⟨S224x18432, .i32⟩
  | .hbm, ⟨8, _⟩ => ⟨S_, .i32⟩
  | .hbm, ⟨9, _⟩ => ⟨S224x18432, .i32⟩
  | .hbm, ⟨10, _⟩ => ⟨S224x18432, .i32⟩
  | .hbm, ⟨11, _⟩ => ⟨S224x18432, .f32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S1x4x1, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S1x4x1, .i32⟩
  | .hbm, ⟨22, _⟩ => ⟨S224x1x18432, .i32⟩
  | .hbm, ⟨23, _⟩ => ⟨S224x4x18432, .i32⟩
  | .hbm, ⟨24, _⟩ => ⟨S224x4x18432, .i32⟩
  | .hbm, ⟨25, _⟩ => ⟨S224x4x18432, .i32⟩
  | .hbm, ⟨26, _⟩ => ⟨S_, .i32⟩
  | .hbm, ⟨27, _⟩ => ⟨S224x4x18432, .i32⟩
  | .hbm, ⟨28, _⟩ => ⟨S224x4x18432, .i32⟩
  | .hbm, ⟨29, _⟩ => ⟨S224x1x18432, .i32⟩
  | .hbm, ⟨30, _⟩ => ⟨S224x4x18432, .i32⟩
  | .hbm, ⟨31, _⟩ => ⟨S224x4x18432, .i32⟩
  | .hbm, ⟨32, _⟩ => ⟨S224x4x18432, .i32⟩
  | .hbm, ⟨33, _⟩ => ⟨S_, .i32⟩
  | .hbm, ⟨34, _⟩ => ⟨S224x4x18432, .i32⟩
  | .hbm, ⟨35, _⟩ => ⟨S224x4x18432, .i32⟩
  | .hbm, ⟨36, _⟩ => ⟨S224x4x18432, .i32⟩
  | .hbm, ⟨37, _⟩ => ⟨S_, .i32⟩
  | .hbm, ⟨38, _⟩ => ⟨S224x4x18432, .i32⟩
  | .hbm, ⟨39, _⟩ => ⟨S224x4x18432, .i32⟩
  | .hbm, ⟨40, _⟩ => ⟨S_, .i32⟩
  | .hbm, ⟨41, _⟩ => ⟨S224x4x18432, .i32⟩
  | .hbm, ⟨42, _⟩ => ⟨S224x4x18432, .i32⟩
  | .hbm, ⟨43, _⟩ => ⟨S224x4x18432, .i32⟩
  | .hbm, ⟨44, _⟩ => ⟨S256x8, .i32⟩
  | .hbm, ⟨45, _⟩ => ⟨S224x4x18432, .i32⟩
  | .hbm, ⟨46, _⟩ => ⟨S224x4x18432x1, .i32⟩
  | .hbm, ⟨47, _⟩ => ⟨S224x4x18432x8, .i32⟩
  | .hbm, ⟨48, _⟩ => ⟨S224x4x8x18432, .i32⟩
  | .hbm, ⟨49, _⟩ => ⟨S8, .i32⟩
  | .hbm, ⟨50, _⟩ => ⟨S1x1x8x1, .i32⟩
  | .hbm, ⟨51, _⟩ => ⟨S224x4x1x18432, .i32⟩
  | .hbm, ⟨52, _⟩ => ⟨S224x4x8x18432, .i32⟩
  | .hbm, ⟨53, _⟩ => ⟨S224x4x8x18432, .i32⟩
  | .hbm, ⟨54, _⟩ => ⟨S224x4x8x18432, .i32⟩
  | .hbm, ⟨55, _⟩ => ⟨S_, .i32⟩
  | .hbm, ⟨56, _⟩ => ⟨S224x4x8x18432, .i32⟩
  | .hbm, ⟨57, _⟩ => ⟨S224x4x8x18432, .i32⟩
  | .hbm, ⟨58, _⟩ => ⟨S1280x7168, .bf16⟩
  | .hbm, ⟨59, _⟩ => ⟨S224x4x8x18432, .f32⟩
  | .hbm, ⟨60, _⟩ => ⟨S224x32x18432, .f32⟩
  | .hbm, ⟨61, _⟩ => ⟨S224x4x8x18432, .i32⟩
  | .hbm, ⟨62, _⟩ => ⟨S224x32x18432, .i32⟩
  | .hbm, ⟨63, _⟩ => ⟨S1280x18432, .bf16⟩
  | .local _ .vmem, ⟨0, _⟩ => ⟨S1280x7168, .bf16⟩
  | .local _ .vmem, ⟨1, _⟩ => ⟨S28x18432, .f16⟩
  | .local _ .vmem, ⟨2, _⟩ => ⟨S224x18432, .f32⟩
  | .local _ .vmem, ⟨3, _⟩ => ⟨S224x32x18432, .f32⟩
  | .local _ .vmem, ⟨4, _⟩ => ⟨S224x32x18432, .i32⟩
  | .local _ .vmem, ⟨5, _⟩ => ⟨S1280x18432, .bf16⟩
  | _, _ => ⟨S2x640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1280x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x18432 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S224x32x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x32x18432 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelLoops.lean ====
/- The six decode loops over the superblocks, for the frame of the kernel: each holds the words and the scales it reads
   as they are, and the sign words, the block scales and the weight tile it writes at some contents. -/
module

public import proofs.«01_k».proof.Proof.Gen.Kernel.Loops
public import Idealize.ShloMosaic.Lib.Exec
public import Idealize.ShloMosaic.Lib.Tactic

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What a decode loop holds: the packed words `Q` and the scales `D` at their contents, the sign words `S`, the block
    scales `B` and the weight tile `W` at some contents. -/
abbrev decodeInv (c : Dev nD) (Q : Memref sig .tc .vmem S224x2x256 .i32) (D : Memref sig .tc .vmem S28x256 .f16)
    (S : Memref sig .tc .vmem S224x256 .i32) (B : Memref sig .tc .vmem S224x256 .f32) (W : Memref sig .tc .vmem S7168x256 .bf16)
    (XQ : BufTy.Contents (Elt F) Q.view.ty) (XD : BufTy.Contents (Elt F) D.view.ty) : sProp 𝕄 :=
  iprop((Q.view.loc (c : Thread nD τ) ↦[Q.view.set]{fullShare} XQ) ∗ (D.view.loc (c : Thread nD τ) ↦[D.view.set]{fullShare} XD)
    ∗ (∃ f, S.view.loc (c : Thread nD τ) ↦[S.view.set]{fullShare} f) ∗ (∃ f, B.view.loc (c : Thread nD τ) ↦[B.view.set]{fullShare} f)
    ∗ (∃ f, W.view.loc (c : Thread nD τ) ↦[W.view.set]{fullShare} f))

variable (i : grid0.Coords) (arg1 : Memref sig .tc .vmem S1280x7168 .bf16) (harg1 : arg1.IsWhole) (arg2 : Memref sig .tc .vmem S224x2x256 .i32) (harg2 : arg2.IsWhole) (arg3 : Memref sig .tc .vmem S224x2x256 .i32) (harg3 : arg3.IsWhole) (arg4 : Memref sig .tc .vmem S224x2x256 .i32) (harg4 : arg4.IsWhole) (arg5 : Memref sig .tc .vmem S28x256 .f16) (harg5 : arg5.IsWhole) (arg6 : Memref sig .tc .vmem S28x256 .f16) (harg6 : arg6.IsWhole) (arg7 : Memref sig .tc .vmem S28x256 .f16) (harg7 : arg7.IsWhole) (arg8 : Memref sig .tc .vmem S8x256 .i8) (harg8 : arg8.IsWhole) (arg9 : Memref sig .tc .vmem S1280x512 .bf16) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S224x256 .i32) (harg12 : arg12.IsWhole) (arg13 : Memref sig .tc .vmem S224x256 .f32) (harg13 : arg13.IsWhole)

/-- The decode loop `k0_t1_loop` from `arg2` and `arg5` into `arg10`: every trip keeps `decodeInv`. -/
@[sl_loop] def loopInv_k0_t1 (c : Dev nD) (v0 : Vec F S8x256 .i8) (k0_h1 : k0_cond1 i = 1#1)
    (XQ : BufTy.Contents (Elt F) arg2.view.ty) (XD : BufTy.Contents (Elt F) arg5.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v0 k0_h1 where
  inv _ _ := decodeInv c arg2 arg5 arg12 arg13 arg10 XQ XD
  step k acc := by
    unfold k0_t1_body
    iintro ⟨HQ, HD, ⟨%fS, HS⟩, ⟨%fB, HB⟩, ⟨%fW, HW⟩⟩
    sl_exec
    sl_step
    sl_close

/-- The decode loop `k0_t3_loop` from `arg2` and `arg5` into `arg10`: every trip keeps `decodeInv`. -/
@[sl_loop] def loopInv_k0_t3 (c : Dev nD) (v0 : Vec F S8x256 .i8) (k0_h1 : k0_cond1 i = 1#1)
    (XQ : BufTy.Contents (Elt F) arg2.view.ty) (XD : BufTy.Contents (Elt F) arg5.view.ty) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v0 k0_h1 where
  inv _ _ := decodeInv c arg2 arg5 arg12 arg13 arg10 XQ XD
  step k acc := by
    unfold k0_t3_body
    iintro ⟨HQ, HD, ⟨%fS, HS⟩, ⟨%fB, HB⟩, ⟨%fW, HW⟩⟩
    sl_exec
    sl_step
    sl_close

/-- The decode loop `k0_t5_loop` from `arg3` and `arg6` into `arg11`: every trip keeps `decodeInv`. -/
@[sl_loop] def loopInv_k0_t5 (c : Dev nD) (v39 : IVec S8x128 32) (v40 : IVec S8x128 32)
    (XQ : BufTy.Contents (Elt F) arg3.view.ty) (XD : BufTy.Contents (Elt F) arg6.view.ty) :
    LoopInvTy_k0_t5 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 where
  inv _ _ := decodeInv c arg3 arg6 arg12 arg13 arg11 XQ XD
  step k acc := by
    unfold k0_t5_body
    iintro ⟨HQ, HD, ⟨%fS, HS⟩, ⟨%fB, HB⟩, ⟨%fW, HW⟩⟩
    sl_exec
    sl_step
    sl_close

/-- The decode loop `k0_t7_loop` from `arg3` and `arg6` into `arg11`: every trip keeps `decodeInv`. -/
@[sl_loop] def loopInv_k0_t7 (c : Dev nD) (v39 : IVec S8x128 32) (v40 : IVec S8x128 32)
    (XQ : BufTy.Contents (Elt F) arg3.view.ty) (XD : BufTy.Contents (Elt F) arg6.view.ty) :
    LoopInvTy_k0_t7 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 where
  inv _ _ := decodeInv c arg3 arg6 arg12 arg13 arg11 XQ XD
  step k acc := by
    unfold k0_t7_body
    iintro ⟨HQ, HD, ⟨%fS, HS⟩, ⟨%fB, HB⟩, ⟨%fW, HW⟩⟩
    sl_exec
    sl_step
    sl_close

/-- The decode loop `k0_t9_loop` from `arg4` and `arg7` into `arg10`: every trip keeps `decodeInv`. -/
@[sl_loop] def loopInv_k0_t9 (c : Dev nD) (v39 : IVec S8x128 32) (v40 : IVec S8x128 32) (v69 : IVec S8x128 32) (v71 : IVec S8x128 32) (v73 : IVec S8x128 32)
    (XQ : BufTy.Contents (Elt F) arg4.view.ty) (XD : BufTy.Contents (Elt F) arg7.view.ty) :
    LoopInvTy_k0_t9 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 v69 v71 v73 where
  inv _ _ := decodeInv c arg4 arg7 arg12 arg13 arg10 XQ XD
  step k acc := by
    unfold k0_t9_body
    iintro ⟨HQ, HD, ⟨%fS, HS⟩, ⟨%fB, HB⟩, ⟨%fW, HW⟩⟩
    sl_exec
    sl_step
    sl_close

/-- The decode loop `k0_t11_loop` from `arg4` and `arg7` into `arg10`: every trip keeps `decodeInv`. -/
@[sl_loop] def loopInv_k0_t11 (c : Dev nD) (v39 : IVec S8x128 32) (v40 : IVec S8x128 32) (v69 : IVec S8x128 32) (v71 : IVec S8x128 32) (v73 : IVec S8x128 32)
    (XQ : BufTy.Contents (Elt F) arg4.view.ty) (XD : BufTy.Contents (Elt F) arg7.view.ty) :
    LoopInvTy_k0_t11 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 v69 v71 v73 where
  inv _ _ := decodeInv c arg4 arg7 arg12 arg13 arg10 XQ XD
  step k acc := by
    unfold k0_t11_body
    iintro ⟨HQ, HD, ⟨%fS, HS⟩, ⟨%fB, HB⟩, ⟨%fW, HW⟩⟩
    sl_exec
    sl_step
    sl_close

end Cert.Proof.Kernel

end
-- ==== Proof.KernelFrame.lean ====
/- The frame of the kernel: from any memory every execution terminates, leaves the arguments as they were and every
   semaphore counter at zero. Nothing is said here of what the result holds. -/
module

public import proofs.«01_k».proof.Proof.KernelLoops
public import proofs.«01_k».proof.Proof.Gen.Kernel.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A memref held at the elements it names, some contents read. -/
abbrev some_ (c : Dev nD) {s : Shape} {e : EltTy} (M : Memref sig .tc .vmem s e) : sProp 𝕄 :=
  iprop(∃ d, owns (c : Thread nD τ) M fullShare d)

/-- The body on whole memrefs: the input blocks at what they read, the output block and the scratch at anything; it
    returns the inputs as they were, and the output block and the scratch at something. -/
theorem sound_kernel (c : Dev nD) (i : grid0.Coords) (arg1 : Memref sig .tc .vmem S1280x7168 .bf16) (harg1 : arg1.IsWhole) (arg2 : Memref sig .tc .vmem S224x2x256 .i32) (harg2 : arg2.IsWhole) (arg3 : Memref sig .tc .vmem S224x2x256 .i32) (harg3 : arg3.IsWhole) (arg4 : Memref sig .tc .vmem S224x2x256 .i32) (harg4 : arg4.IsWhole) (arg5 : Memref sig .tc .vmem S28x256 .f16) (harg5 : arg5.IsWhole) (arg6 : Memref sig .tc .vmem S28x256 .f16) (harg6 : arg6.IsWhole) (arg7 : Memref sig .tc .vmem S28x256 .f16) (harg7 : arg7.IsWhole) (arg8 : Memref sig .tc .vmem S8x256 .i8) (harg8 : arg8.IsWhole) (arg9 : Memref sig .tc .vmem S1280x512 .bf16) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S224x256 .i32) (harg12 : arg12.IsWhole) (arg13 : Memref sig .tc .vmem S224x256 .f32) (harg13 : arg13.IsWhole)
    (x1 : Vec F S1280x7168 .bf16) (x2 x3 x4 : Vec F S224x2x256 .i32) (x5 x6 x7 : Vec F S28x256 .f16) (x8 : Vec F S8x256 .i8) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7 ∗ owns (c : Thread nD τ) arg8 fullShare x8
        ∗ some_ c arg9 ∗ some_ c arg10 ∗ some_ c arg11 ∗ some_ c arg12 ∗ some_ c arg13
        ∗ (iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7 ∗ owns (c : Thread nD τ) arg8 fullShare x8
        ∗ some_ c arg9 ∗ some_ c arg10 ∗ some_ c arg11 ∗ some_ c arg12 ∗ some_ c arg13) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold some_ owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5 hf6 hf7 hf8
  by_cases h : k0_cond1 i = 1#1
  · sl_exec
    sl_step
    iapply Hk
    sl_close
  · sl_exec
    sl_step
    iapply Hk
    sl_close

/-! ## The proof data and the body obligation -/

/-- The output window is forgotten: the frame reads nothing of it. -/
def forgets0 : Fin 9 → Bool | 8 => true | _ => false

/-- The proof data on core `c`: the arrays as the region finds them; each input block left as it is; the output unnamed;
    the scratch at some contents. The packed words are three windows' array and so are the scales: each window holds its
    share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ some_ c (st0_8 t))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ some_ c (st0_8 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7]
  unfold Pipeline.ΦA
  rw [scopedRest0_eq]
  simp only [← owns_whole]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (sound_kernel c _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point, the output forgotten. -/
theorem body_obligation (c : Dev nD) :
    BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every execution terminates; every buffer but the output ends as the region found it, every counter at zero. -/
theorem run_main : θ_run defs (onTc (τ := τ) (main (F := F))) (s₀ m ρ)
    (fun r => RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := body_obligation m) (hq := fun _ _ _ => rfl)
    (howed := fun _ _ => rfl) (V := V m) (hmain := hmain m Variants.none) (hA := A_eq m) (hΦ := fun _ _ => rfl)

/-- THE FRAME of the kernel: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (RDat.FramePost.arr_in h.1 c 6 rfl).trans ((A_eq m c 6).trans (V_main_arg2 m c)),
      (h.1 c).2 main_arg3 (Pipeline.mem_restRefs_of main_arg3 (by decide) (by decide)) |>.trans (V_main_arg3 m c)⟩, h.2⟩)
    (run_main m ρ)

end Cert.Proof.Kernel

end
-- ==== Proof.DecodeLoops.lean ====
/- The kernel's decode loops with what they compute: a weight tile decoded from the packed words, the scales and the
   table words is a list of stored pieces that depends on nothing else. -/
module

public import proofs.«01_k».proof.Proof.Gen.KernelIdeal.Loops
public import Idealize.ShloMosaic.Lib.Exec
public import Idealize.ShloMosaic.Lib.Tactic
public import Idealize.ShloMosaic.Lib.Pipeline.FrameBody
public import Idealize.ShloMosaic.Lib.ValueIdxCore

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the loops store, as functions of the data they read -/

/-- The sign words of eight sub-blocks, of the second words `b` of their blocks. -/
def signRows (b : Vec F S8x1x128 .i32) : IVec S8x128 32 := k0_pay86 (k0_pay84 b) (k0_pay85 b)

/-- The scales of eight sub-blocks, of the second words `b` of their blocks and the scale `d` of their superblock. -/
def dbRows (b : Vec F S8x1x128 .i32) (d : Vec F S1x128 .f16) : FVec F S8x128 .f32 :=
  k0_pay1 (k0_pay87 (k0_pay83 b)) (k0_pay88 d) k0_pay89

/-- The first sixteen weight rows of a sub-block, of the table words `tl` `th`, its first word `a`, its sign word `sg` and
    its scale `db`. -/
def wLo (tl th : IVec S8x128 32) (a : Vec F S1x1x128 .i32) (sg : Vec F S1x128 .i32) (db : Vec F S1x128 .f32) :
    FVec F S16x128 .bf16 :=
  k0_pay78 k0_pay128 (k0_pay73 sg) (k0_pay74 db) (k0_pay76 tl th k0_pay127 a) (k0_pay77 tl th k0_pay127 a)

/-- The last sixteen weight rows of a sub-block, of the same. -/
def wHi (tl th : IVec S8x128 32) (a : Vec F S1x1x128 .i32) (sg : Vec F S1x128 .i32) (db : Vec F S1x128 .f32) :
    FVec F S16x128 .bf16 :=
  k0_pay2 (k0_pay80 (k0_pay74 db) (k0_pay75 tl th k0_pay127 a)) (k0_pay81 (k0_pay74 db) (k0_pay75 tl th k0_pay127 a))
    (k0_pay82 k0_pay129 (k0_pay73 sg)) 2147516416#32

/-- Row `j` of an eight-row block. -/
def rowOf {e : EltTy} (X : Vec F S8x128 e) (j : ℕ) (hj : j < 8) : Vec F S1x128 e := fun y => X (ix2 ⟨j, hj⟩ (y 1))

/-! ## The first 128 lanes -/

/-- The second words of the blocks of superblock `k`. -/
def words0 (q : Vec F S224x2x256 .i32) (k : Fin k0_t9_loop.trips) : Vec F S8x1x128 .i32 :=
  View.ld q (Rect.unit (s := S224x2x256) (k0_off25 k) S8x1x128.size (k0_off25_inb k))

/-- The scale of superblock `k`. -/
def scale0 (d : Vec F S28x256 .f16) (k : Fin k0_t9_loop.trips) : Vec F S1x128 .f16 :=
  View.ld d (Rect.unit (s := S28x256) (k0_off27 k) S1x128.size (k0_off27_inb k))

/-- The first words of the block `j` of superblock `k`. -/
def word0 (q : Vec F S224x2x256 .i32) (k : Fin k0_t9_loop.trips) (j : Fin k0_t10_loop.trips) : Vec F S1x1x128 .i32 :=
  View.ld q (Rect.unit (s := S224x2x256) (k0_off28 k j) S1x1x128.size (k0_off28_inb k j))

/-- The two pieces stored for block `j` of superblock `k`, the last first. -/
def pair0 (tl th : IVec S8x128 32) (k : Fin k0_t9_loop.trips) (j : Fin k0_t10_loop.trips) (a : Vec F S1x1x128 .i32)
    (sg : Vec F S1x128 .i32) (db : Vec F S1x128 .f32) : List (View.Piece (Elt F) S7168x256 .bf16) :=
  [⟨Rect.unit (s := S7168x256) (k0_off30 k j 16#32) S16x128.size (k0_off30_inb k j 1), wHi tl th a sg db⟩,
   ⟨Rect.unit (s := S7168x256) (k0_off30 k j 0#32) S16x128.size (k0_off30_inb k j 0), wLo tl th a sg db⟩]

/-- The pieces stored for the blocks of superblock `k` before block `j`, of the sign words and the scales of its blocks. -/
def inner0 (tl th : IVec S8x128 32) (q : Vec F S224x2x256 .i32) (k : Fin k0_t9_loop.trips)
    (sg : Fin k0_t10_loop.trips → Vec F S1x128 .i32) (db : Fin k0_t10_loop.trips → Vec F S1x128 .f32) :
    ℕ → List (View.Piece (Elt F) S7168x256 .bf16)
  | 0 => []
  | j + 1 => if h : j < k0_t10_loop.trips then
      pair0 tl th k ⟨j, h⟩ (word0 q k ⟨j, h⟩) (sg ⟨j, h⟩) (db ⟨j, h⟩) ++ inner0 tl th q k sg db j
      else inner0 tl th q k sg db j

theorem inner0_succ (tl th : IVec S8x128 32) (q : Vec F S224x2x256 .i32) (k : Fin k0_t9_loop.trips)
    (sg : Fin k0_t10_loop.trips → Vec F S1x128 .i32) (db : Fin k0_t10_loop.trips → Vec F S1x128 .f32) (j : Fin k0_t10_loop.trips) :
    inner0 tl th q k sg db (j.val + 1) =
      pair0 tl th k j (word0 q k j) (sg j) (db j) ++ inner0 tl th q k sg db j.val := by
  rw [inner0]; exact dif_pos j.isLt

/-- Block `j`'s row of the contents of the scratch buffer of words, resp. of scales. -/
def blockRow0 {e : EltTy} (X : Vec F S224x256 e) (k : Fin k0_t9_loop.trips) (j : Fin k0_t10_loop.trips) : Vec F S1x128 e :=
  View.ld X (Rect.unit (s := S224x256) (k0_off29 k j) S1x128.size (k0_off29_inb k j))

theorem trips0 : k0_t10_loop.trips = 8 := by decide +kernel

/-- The pieces stored for superblock `k`. -/
def block0 (tl th : IVec S8x128 32) (q : Vec F S224x2x256 .i32) (d : Vec F S28x256 .f16) (k : Fin k0_t9_loop.trips) :
    List (View.Piece (Elt F) S7168x256 .bf16) :=
  inner0 tl th q k (fun j => rowOf (F := F) (signRows (words0 q k)) j.val (trips0 ▸ j.isLt))
    (fun j => rowOf (F := F) (dbRows (words0 q k) (scale0 d k)) j.val (trips0 ▸ j.isLt)) k0_t10_loop.trips

/-- The pieces stored for the superblocks before `k`. -/
def outer0 (tl th : IVec S8x128 32) (q : Vec F S224x2x256 .i32) (d : Vec F S28x256 .f16) :
    ℕ → List (View.Piece (Elt F) S7168x256 .bf16)
  | 0 => []
  | k + 1 => if h : k < k0_t9_loop.trips then block0 tl th q d ⟨k, h⟩ ++ outer0 tl th q d k else outer0 tl th q d k

theorem outer0_succ (tl th : IVec S8x128 32) (q : Vec F S224x2x256 .i32) (d : Vec F S28x256 .f16) (k : Fin k0_t9_loop.trips) :
    outer0 tl th q d (k.val + 1) = block0 tl th q d k ++ outer0 tl th q d k.val := by
  rw [outer0]; exact dif_pos k.isLt

theorem k0_off26_eq : ∀ k : Fin k0_t9_loop.trips, k0_off26 k 0 = 8 * k.val ∧ k0_off26 k 1 = 0 := by decide +kernel
theorem k0_off29_eq : ∀ (k : Fin k0_t9_loop.trips) (j : Fin k0_t10_loop.trips), k0_off29 k j 0 = 8 * k.val + j.val ∧ k0_off29 k j 1 = 0 := by
  decide +kernel

/-- A block's row of a scratch buffer whose eight rows of the superblock were just stored is the stored row. -/
theorem blockRow0_store {e : EltTy} (V : View sig .tc .vmem S224x256 e) (f : V.ty.Contents (Elt F)) (k : Fin k0_t9_loop.trips)
    (j : Fin k0_t10_loop.trips) (M : Vec F S8x128 e) :
    blockRow0 (V.read (Elt F) (V.writes (Elt F) f [⟨Rect.unit (s := S224x256) (k0_off26 k) S8x128.size (k0_off26_inb k), M⟩])) k j =
      rowOf M j.val (trips0 ▸ j.isLt) := by
  funext y
  have h8 : j.val < 8 := trips0 ▸ j.isLt
  refine View.read_writes_cons_hit_of_coords V f (Rect.unit (s := S224x256) (k0_off26 k) S8x128.size (k0_off26_inb k)) M []
    ((ix2 ⟨j.val, h8⟩ (y 1) : S8x128.Idx)) _ ?_
  obtain ⟨h0, h1⟩ := k0_off26_eq k
  obtain ⟨g0, g1⟩ := k0_off29_eq k j
  intro a
  match a with
  | ⟨0, _⟩ =>
    have hy : (y 0).val < 1 := (y 0).isLt
    show k0_off29 k j 0 + 1 * (y 0).val = k0_off26 k 0 + 1 * j.val
    omega
  | ⟨1, _⟩ =>
    show k0_off29 k j 1 + 1 * (y 1).val = k0_off26 k 1 + 1 * (y 1).val
    omega

section
variable (i : grid0.Coords) (arg1 : Memref sig .tc .vmem S1280x7168 .bf16) (harg1 : arg1.IsWhole) (arg2 : Memref sig .tc .vmem S224x2x256 .i32) (harg2 : arg2.IsWhole) (arg3 : Memref sig .tc .vmem S224x2x256 .i32) (harg3 : arg3.IsWhole) (arg4 : Memref sig .tc .vmem S224x2x256 .i32) (harg4 : arg4.IsWhole) (arg5 : Memref sig .tc .vmem S28x256 .f16) (harg5 : arg5.IsWhole) (arg6 : Memref sig .tc .vmem S28x256 .f16) (harg6 : arg6.IsWhole) (arg7 : Memref sig .tc .vmem S28x256 .f16) (harg7 : arg7.IsWhole) (arg8 : Memref sig .tc .vmem S8x256 .i8) (harg8 : arg8.IsWhole) (arg9 : Memref sig .tc .vmem S1280x512 .bf16) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S224x256 .i32) (harg12 : arg12.IsWhole) (arg13 : Memref sig .tc .vmem S224x256 .f32) (harg13 : arg13.IsWhole)

/-- One block of the first lanes stores its two pieces. -/
theorem trip_k0_t10 (c : Dev nD) (v39 v40 : IVec S8x128 32) (k0_t9 : Fin k0_t9_loop.trips) (v77 : BitVec 32)
    (XQ : BufTy.Contents (Elt F) arg4.view.ty) (XS : BufTy.Contents (Elt F) arg12.view.ty) (XB : BufTy.Contents (Elt F) arg13.view.ty)
    (f : BufTy.Contents (Elt F) arg10.view.ty) (k : Fin k0_t10_loop.trips) :
    iprop((arg4.view.loc (c : Thread nD τ) ↦[arg4.view.set]{fullShare} XQ) ∗ (arg12.view.loc (c : Thread nD τ) ↦[arg12.view.set]{fullShare} XS)
      ∗ (arg13.view.loc (c : Thread nD τ) ↦[arg13.view.set]{fullShare} XB) ∗ (arg10.view.loc (c : Thread nD τ) ↦[arg10.view.set]{fullShare} f))
    ⊢ (wp frame (wpE (defs₀ (F := F)) Variants.none (c : Thread nD τ) none) Set.univ (k0_t10_body (F := F) i arg1 harg1 arg2 harg2 arg3 harg3 arg4 harg4 arg5 harg5 arg6 harg6 arg7 harg7 arg8 harg8 arg9 harg9 arg10 harg10 arg11 harg11 arg12 harg12 arg13 harg13 v39 v40 k0_pay127 k0_pay128 k0_pay129 k0_t9 v77 k PUnit.unit)
      (fun _ => iprop((arg4.view.loc (c : Thread nD τ) ↦[arg4.view.set]{fullShare} XQ) ∗ (arg12.view.loc (c : Thread nD τ) ↦[arg12.view.set]{fullShare} XS)
      ∗ (arg13.view.loc (c : Thread nD τ) ↦[arg13.view.set]{fullShare} XB) ∗ (arg10.view.loc (c : Thread nD τ) ↦[arg10.view.set]{fullShare} (arg10.view.writes (Elt F) f
        (pair0 v39 v40 k0_t9 k (word0 (arg4.view.read (Elt F) XQ) k0_t9 k)
          (blockRow0 (arg12.view.read (Elt F) XS) k0_t9 k)
          (blockRow0 (arg13.view.read (Elt F) XB) k0_t9 k))))))
        : sProp 𝕄) := by
  unfold k0_t10_body
  iintro ⟨HQ, HS, HB, HW⟩
  sl_exec
  sl_step
  sl_close

/-- The blocks of a superblock of the first lanes: the words and the two scratch buffers as they are, the tile at the
    pieces of the blocks before. -/
@[sl_loop] def innerInv0 (c : Dev nD) (v39 v40 : IVec S8x128 32) (k0_t9 : Fin k0_t9_loop.trips) (v77 : BitVec 32)
    (XQ : BufTy.Contents (Elt F) arg4.view.ty) (XS : BufTy.Contents (Elt F) arg12.view.ty) (XB : BufTy.Contents (Elt F) arg13.view.ty)
    (G : BufTy.Contents (Elt F) arg10.view.ty) :
    LoopInvTy_k0_t10 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 k0_pay127 k0_pay128 k0_pay129 k0_t9 v77 where
  inv k _ := iprop((arg4.view.loc (c : Thread nD τ) ↦[arg4.view.set]{fullShare} XQ) ∗ (arg12.view.loc (c : Thread nD τ) ↦[arg12.view.set]{fullShare} XS)
      ∗ (arg13.view.loc (c : Thread nD τ) ↦[arg13.view.set]{fullShare} XB) ∗ (∃ f, (arg10.view.loc (c : Thread nD τ) ↦[arg10.view.set]{fullShare} f)
        ∗ ⌜f = arg10.view.writes (Elt F) G (inner0 v39 v40 (arg4.view.read (Elt F) XQ) k0_t9 (blockRow0 (arg12.view.read (Elt F) XS) k0_t9)
          (blockRow0 (arg13.view.read (Elt F) XB) k0_t9) k)⌝))
  step k acc := by
    iintro ⟨HQ, HS, HB, ⟨%f, HW, %h⟩⟩
    iapply (wp_wand_r Idealize.ShloMosaic.frame (wpE (defs₀ (F := F)) Variants.none (c : Thread nD τ) none) Set.univ)
    isplitl [HQ HS HB HW]
    · iapply (trip_k0_t10 (F := F) i arg1 harg1 arg2 harg2 arg3 harg3 arg4 harg4 arg5 harg5 arg6 harg6 arg7 harg7 arg8 harg8 arg9 harg9 arg10 harg10 arg11 harg11 arg12 harg12 arg13 harg13 c v39 v40 k0_t9 v77 XQ XS XB f k)
      isplitl [HQ]; · iexact HQ
      isplitl [HS]; · iexact HS
      isplitl [HB]; · iexact HB
      iexact HW
    · iintro %_ ⟨HQ, HS, HB, HW⟩
      isplitl [HQ]; · iexact HQ
      isplitl [HS]; · iexact HS
      isplitl [HB]; · iexact HB
      iexists _; isplitl [HW]; · iexact HW
      ipureintro; rw [h, ← View.writes_append, inner0_succ]

/-- The superblocks of the first lanes: the words and the scales as they are, the two scratch buffers at some contents,
    the tile at the pieces of the superblocks before. -/
@[sl_loop] def outerInv0 (c : Dev nD) (v39 v40 : IVec S8x128 32)
    (XQ : BufTy.Contents (Elt F) arg4.view.ty) (XD : BufTy.Contents (Elt F) arg7.view.ty)
    (G : BufTy.Contents (Elt F) arg10.view.ty) :
    LoopInvTy_k0_t9 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 k0_pay127 k0_pay128 k0_pay129 where
  inv k _ := iprop((arg4.view.loc (c : Thread nD τ) ↦[arg4.view.set]{fullShare} XQ) ∗ (arg7.view.loc (c : Thread nD τ) ↦[arg7.view.set]{fullShare} XD)
      ∗ (∃ f, arg12.view.loc (c : Thread nD τ) ↦[arg12.view.set]{fullShare} f) ∗ (∃ f, arg13.view.loc (c : Thread nD τ) ↦[arg13.view.set]{fullShare} f)
      ∗ (∃ f, (arg10.view.loc (c : Thread nD τ) ↦[arg10.view.set]{fullShare} f)
        ∗ ⌜f = arg10.view.writes (Elt F) G (outer0 v39 v40 (arg4.view.read (Elt F) XQ) (arg7.view.read (Elt F) XD) k)⌝))
  step k acc := by
    unfold k0_t9_body
    iintro ⟨HQ, HD, ⟨%fS, HS⟩, ⟨%fB, HB⟩, ⟨%fW, HW, %hW⟩⟩
    sl_exec
    sl_step
    isplitl [HQ]; · iexact HQ
    isplitl [HD]; · iexact HD
    isplitl [HS]; · iexists _; iexact HS
    isplitl [HB]; · iexists _; iexact HB
    iexists _; isplitl [HW]; · iexact HW
    ipureintro
    rw [outer0_succ, View.writes_append, ← hW]
    exact congrArg₂ (fun sg db => arg10.view.writes (Elt F) fW (inner0 v39 v40 (arg4.view.read (Elt F) XQ) k sg db k0_t10_loop.trips))
      (funext fun j => blockRow0_store arg12.view fS k j (signRows (words0 (arg4.view.read (Elt F) XQ) k)))
      (funext fun j => blockRow0_store arg13.view fB k j (dbRows (words0 (arg4.view.read (Elt F) XQ) k) (scale0 (arg7.view.read (Elt F) XD) k)))
end

/-! ## The last 128 lanes -/

/-- The second words of the blocks of superblock `k`. -/
def words1 (q : Vec F S224x2x256 .i32) (k : Fin k0_t11_loop.trips) : Vec F S8x1x128 .i32 :=
  View.ld q (Rect.unit (s := S224x2x256) (k0_off31 k) S8x1x128.size (k0_off31_inb k))

/-- The scale of superblock `k`. -/
def scale1 (d : Vec F S28x256 .f16) (k : Fin k0_t11_loop.trips) : Vec F S1x128 .f16 :=
  View.ld d (Rect.unit (s := S28x256) (k0_off33 k) S1x128.size (k0_off33_inb k))

/-- The first words of the block `j` of superblock `k`. -/
def word1 (q : Vec F S224x2x256 .i32) (k : Fin k0_t11_loop.trips) (j : Fin k0_t12_loop.trips) : Vec F S1x1x128 .i32 :=
  View.ld q (Rect.unit (s := S224x2x256) (k0_off34 k j) S1x1x128.size (k0_off34_inb k j))

/-- The two pieces stored for block `j` of superblock `k`, the last first. -/
def pair1 (tl th : IVec S8x128 32) (k : Fin k0_t11_loop.trips) (j : Fin k0_t12_loop.trips) (a : Vec F S1x1x128 .i32)
    (sg : Vec F S1x128 .i32) (db : Vec F S1x128 .f32) : List (View.Piece (Elt F) S7168x256 .bf16) :=
  [⟨Rect.unit (s := S7168x256) (k0_off36 k j 16#32) S16x128.size (k0_off36_inb k j 1), wHi tl th a sg db⟩,
   ⟨Rect.unit (s := S7168x256) (k0_off36 k j 0#32) S16x128.size (k0_off36_inb k j 0), wLo tl th a sg db⟩]

/-- The pieces stored for the blocks of superblock `k` before block `j`, of the sign words and the scales of its blocks. -/
def inner1 (tl th : IVec S8x128 32) (q : Vec F S224x2x256 .i32) (k : Fin k0_t11_loop.trips)
    (sg : Fin k0_t12_loop.trips → Vec F S1x128 .i32) (db : Fin k0_t12_loop.trips → Vec F S1x128 .f32) :
    ℕ → List (View.Piece (Elt F) S7168x256 .bf16)
  | 0 => []
  | j + 1 => if h : j < k0_t12_loop.trips then
      pair1 tl th k ⟨j, h⟩ (word1 q k ⟨j, h⟩) (sg ⟨j, h⟩) (db ⟨j, h⟩) ++ inner1 tl th q k sg db j
      else inner1 tl th q k sg db j

theorem inner1_succ (tl th : IVec S8x128 32) (q : Vec F S224x2x256 .i32) (k : Fin k0_t11_loop.trips)
    (sg : Fin k0_t12_loop.trips → Vec F S1x128 .i32) (db : Fin k0_t12_loop.trips → Vec F S1x128 .f32) (j : Fin k0_t12_loop.trips) :
    inner1 tl th q k sg db (j.val + 1) =
      pair1 tl th k j (word1 q k j) (sg j) (db j) ++ inner1 tl th q k sg db j.val := by
  rw [inner1]; exact dif_pos j.isLt

/-- Block `j`'s row of the contents of the scratch buffer of words, resp. of scales. -/
def blockRow1 {e : EltTy} (X : Vec F S224x256 e) (k : Fin k0_t11_loop.trips) (j : Fin k0_t12_loop.trips) : Vec F S1x128 e :=
  View.ld X (Rect.unit (s := S224x256) (k0_off35 k j) S1x128.size (k0_off35_inb k j))

theorem trips1 : k0_t12_loop.trips = 8 := by decide +kernel

/-- The pieces stored for superblock `k`. -/
def block1 (tl th : IVec S8x128 32) (q : Vec F S224x2x256 .i32) (d : Vec F S28x256 .f16) (k : Fin k0_t11_loop.trips) :
    List (View.Piece (Elt F) S7168x256 .bf16) :=
  inner1 tl th q k (fun j => rowOf (F := F) (signRows (words1 q k)) j.val (trips1 ▸ j.isLt))
    (fun j => rowOf (F := F) (dbRows (words1 q k) (scale1 d k)) j.val (trips1 ▸ j.isLt)) k0_t12_loop.trips

/-- The pieces stored for the superblocks before `k`. -/
def outer1 (tl th : IVec S8x128 32) (q : Vec F S224x2x256 .i32) (d : Vec F S28x256 .f16) :
    ℕ → List (View.Piece (Elt F) S7168x256 .bf16)
  | 0 => []
  | k + 1 => if h : k < k0_t11_loop.trips then block1 tl th q d ⟨k, h⟩ ++ outer1 tl th q d k else outer1 tl th q d k

theorem outer1_succ (tl th : IVec S8x128 32) (q : Vec F S224x2x256 .i32) (d : Vec F S28x256 .f16) (k : Fin k0_t11_loop.trips) :
    outer1 tl th q d (k.val + 1) = block1 tl th q d k ++ outer1 tl th q d k.val := by
  rw [outer1]; exact dif_pos k.isLt

theorem k0_off32_eq : ∀ k : Fin k0_t11_loop.trips, k0_off32 k 0 = 8 * k.val ∧ k0_off32 k 1 = 128 := by decide +kernel
theorem k0_off35_eq : ∀ (k : Fin k0_t11_loop.trips) (j : Fin k0_t12_loop.trips), k0_off35 k j 0 = 8 * k.val + j.val ∧ k0_off35 k j 1 = 128 := by
  decide +kernel

/-- A block's row of a scratch buffer whose eight rows of the superblock were just stored is the stored row. -/
theorem blockRow1_store {e : EltTy} (V : View sig .tc .vmem S224x256 e) (f : V.ty.Contents (Elt F)) (k : Fin k0_t11_loop.trips)
    (j : Fin k0_t12_loop.trips) (M : Vec F S8x128 e) :
    blockRow1 (V.read (Elt F) (V.writes (Elt F) f [⟨Rect.unit (s := S224x256) (k0_off32 k) S8x128.size (k0_off32_inb k), M⟩])) k j =
      rowOf M j.val (trips1 ▸ j.isLt) := by
  funext y
  have h8 : j.val < 8 := trips1 ▸ j.isLt
  refine View.read_writes_cons_hit_of_coords V f (Rect.unit (s := S224x256) (k0_off32 k) S8x128.size (k0_off32_inb k)) M []
    ((ix2 ⟨j.val, h8⟩ (y 1) : S8x128.Idx)) _ ?_
  obtain ⟨h0, h1⟩ := k0_off32_eq k
  obtain ⟨g0, g1⟩ := k0_off35_eq k j
  intro a
  match a with
  | ⟨0, _⟩ =>
    have hy : (y 0).val < 1 := (y 0).isLt
    show k0_off35 k j 0 + 1 * (y 0).val = k0_off32 k 0 + 1 * j.val
    omega
  | ⟨1, _⟩ =>
    show k0_off35 k j 1 + 1 * (y 1).val = k0_off32 k 1 + 1 * (y 1).val
    omega

section
variable (i : grid0.Coords) (arg1 : Memref sig .tc .vmem S1280x7168 .bf16) (harg1 : arg1.IsWhole) (arg2 : Memref sig .tc .vmem S224x2x256 .i32) (harg2 : arg2.IsWhole) (arg3 : Memref sig .tc .vmem S224x2x256 .i32) (harg3 : arg3.IsWhole) (arg4 : Memref sig .tc .vmem S224x2x256 .i32) (harg4 : arg4.IsWhole) (arg5 : Memref sig .tc .vmem S28x256 .f16) (harg5 : arg5.IsWhole) (arg6 : Memref sig .tc .vmem S28x256 .f16) (harg6 : arg6.IsWhole) (arg7 : Memref sig .tc .vmem S28x256 .f16) (harg7 : arg7.IsWhole) (arg8 : Memref sig .tc .vmem S8x256 .i8) (harg8 : arg8.IsWhole) (arg9 : Memref sig .tc .vmem S1280x512 .bf16) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S224x256 .i32) (harg12 : arg12.IsWhole) (arg13 : Memref sig .tc .vmem S224x256 .f32) (harg13 : arg13.IsWhole)

/-- One block of the last lanes stores its two pieces. -/
theorem trip_k0_t12 (c : Dev nD) (v39 v40 : IVec S8x128 32) (k0_t11 : Fin k0_t11_loop.trips) (v77 : BitVec 32)
    (XQ : BufTy.Contents (Elt F) arg4.view.ty) (XS : BufTy.Contents (Elt F) arg12.view.ty) (XB : BufTy.Contents (Elt F) arg13.view.ty)
    (f : BufTy.Contents (Elt F) arg10.view.ty) (k : Fin k0_t12_loop.trips) :
    iprop((arg4.view.loc (c : Thread nD τ) ↦[arg4.view.set]{fullShare} XQ) ∗ (arg12.view.loc (c : Thread nD τ) ↦[arg12.view.set]{fullShare} XS)
      ∗ (arg13.view.loc (c : Thread nD τ) ↦[arg13.view.set]{fullShare} XB) ∗ (arg10.view.loc (c : Thread nD τ) ↦[arg10.view.set]{fullShare} f))
    ⊢ (wp frame (wpE (defs₀ (F := F)) Variants.none (c : Thread nD τ) none) Set.univ (k0_t12_body (F := F) i arg1 harg1 arg2 harg2 arg3 harg3 arg4 harg4 arg5 harg5 arg6 harg6 arg7 harg7 arg8 harg8 arg9 harg9 arg10 harg10 arg11 harg11 arg12 harg12 arg13 harg13 v39 v40 k0_pay127 k0_pay128 k0_pay129 k0_t11 v77 k PUnit.unit)
      (fun _ => iprop((arg4.view.loc (c : Thread nD τ) ↦[arg4.view.set]{fullShare} XQ) ∗ (arg12.view.loc (c : Thread nD τ) ↦[arg12.view.set]{fullShare} XS)
      ∗ (arg13.view.loc (c : Thread nD τ) ↦[arg13.view.set]{fullShare} XB) ∗ (arg10.view.loc (c : Thread nD τ) ↦[arg10.view.set]{fullShare} (arg10.view.writes (Elt F) f
        (pair1 v39 v40 k0_t11 k (word1 (arg4.view.read (Elt F) XQ) k0_t11 k)
          (blockRow1 (arg12.view.read (Elt F) XS) k0_t11 k)
          (blockRow1 (arg13.view.read (Elt F) XB) k0_t11 k))))))
        : sProp 𝕄) := by
  unfold k0_t12_body
  iintro ⟨HQ, HS, HB, HW⟩
  sl_exec
  sl_step
  sl_close

/-- The blocks of a superblock of the last lanes: the words and the two scratch buffers as they are, the tile at the
    pieces of the blocks before. -/
@[sl_loop] def innerInv1 (c : Dev nD) (v39 v40 : IVec S8x128 32) (k0_t11 : Fin k0_t11_loop.trips) (v77 : BitVec 32)
    (XQ : BufTy.Contents (Elt F) arg4.view.ty) (XS : BufTy.Contents (Elt F) arg12.view.ty) (XB : BufTy.Contents (Elt F) arg13.view.ty)
    (G : BufTy.Contents (Elt F) arg10.view.ty) :
    LoopInvTy_k0_t12 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 k0_pay127 k0_pay128 k0_pay129 k0_t11 v77 where
  inv k _ := iprop((arg4.view.loc (c : Thread nD τ) ↦[arg4.view.set]{fullShare} XQ) ∗ (arg12.view.loc (c : Thread nD τ) ↦[arg12.view.set]{fullShare} XS)
      ∗ (arg13.view.loc (c : Thread nD τ) ↦[arg13.view.set]{fullShare} XB) ∗ (∃ f, (arg10.view.loc (c : Thread nD τ) ↦[arg10.view.set]{fullShare} f)
        ∗ ⌜f = arg10.view.writes (Elt F) G (inner1 v39 v40 (arg4.view.read (Elt F) XQ) k0_t11 (blockRow1 (arg12.view.read (Elt F) XS) k0_t11)
          (blockRow1 (arg13.view.read (Elt F) XB) k0_t11) k)⌝))
  step k acc := by
    iintro ⟨HQ, HS, HB, ⟨%f, HW, %h⟩⟩
    iapply (wp_wand_r Idealize.ShloMosaic.frame (wpE (defs₀ (F := F)) Variants.none (c : Thread nD τ) none) Set.univ)
    isplitl [HQ HS HB HW]
    · iapply (trip_k0_t12 (F := F) i arg1 harg1 arg2 harg2 arg3 harg3 arg4 harg4 arg5 harg5 arg6 harg6 arg7 harg7 arg8 harg8 arg9 harg9 arg10 harg10 arg11 harg11 arg12 harg12 arg13 harg13 c v39 v40 k0_t11 v77 XQ XS XB f k)
      isplitl [HQ]; · iexact HQ
      isplitl [HS]; · iexact HS
      isplitl [HB]; · iexact HB
      iexact HW
    · iintro %_ ⟨HQ, HS, HB, HW⟩
      isplitl [HQ]; · iexact HQ
      isplitl [HS]; · iexact HS
      isplitl [HB]; · iexact HB
      iexists _; isplitl [HW]; · iexact HW
      ipureintro; rw [h, ← View.writes_append, inner1_succ]

/-- The superblocks of the last lanes: the words and the scales as they are, the two scratch buffers at some contents,
    the tile at the pieces of the superblocks before. -/
@[sl_loop] def outerInv1 (c : Dev nD) (v39 v40 : IVec S8x128 32)
    (XQ : BufTy.Contents (Elt F) arg4.view.ty) (XD : BufTy.Contents (Elt F) arg7.view.ty)
    (G : BufTy.Contents (Elt F) arg10.view.ty) :
    LoopInvTy_k0_t11 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 k0_pay127 k0_pay128 k0_pay129 where
  inv k _ := iprop((arg4.view.loc (c : Thread nD τ) ↦[arg4.view.set]{fullShare} XQ) ∗ (arg7.view.loc (c : Thread nD τ) ↦[arg7.view.set]{fullShare} XD)
      ∗ (∃ f, arg12.view.loc (c : Thread nD τ) ↦[arg12.view.set]{fullShare} f) ∗ (∃ f, arg13.view.loc (c : Thread nD τ) ↦[arg13.view.set]{fullShare} f)
      ∗ (∃ f, (arg10.view.loc (c : Thread nD τ) ↦[arg10.view.set]{fullShare} f)
        ∗ ⌜f = arg10.view.writes (Elt F) G (outer1 v39 v40 (arg4.view.read (Elt F) XQ) (arg7.view.read (Elt F) XD) k)⌝))
  step k acc := by
    unfold k0_t11_body
    iintro ⟨HQ, HD, ⟨%fS, HS⟩, ⟨%fB, HB⟩, ⟨%fW, HW, %hW⟩⟩
    sl_exec
    sl_step
    isplitl [HQ]; · iexact HQ
    isplitl [HD]; · iexact HD
    isplitl [HS]; · iexists _; iexact HS
    isplitl [HB]; · iexists _; iexact HB
    iexists _; isplitl [HW]; · iexact HW
    ipureintro
    rw [outer1_succ, View.writes_append, ← hW]
    exact congrArg₂ (fun sg db => arg10.view.writes (Elt F) fW (inner1 v39 v40 (arg4.view.read (Elt F) XQ) k sg db k0_t12_loop.trips))
      (funext fun j => blockRow1_store arg12.view fS k j (signRows (words1 (arg4.view.read (Elt F) XQ) k)))
      (funext fun j => blockRow1_store arg13.view fB k j (dbRows (words1 (arg4.view.read (Elt F) XQ) k) (scale1 (arg7.view.read (Elt F) XD) k)))
end

/-! ## The same loops at the other tiles -/

section
variable (i : grid0.Coords) (arg1 : Memref sig .tc .vmem S1280x7168 .bf16) (harg1 : arg1.IsWhole) (arg2 : Memref sig .tc .vmem S224x2x256 .i32) (harg2 : arg2.IsWhole) (arg3 : Memref sig .tc .vmem S224x2x256 .i32) (harg3 : arg3.IsWhole) (arg4 : Memref sig .tc .vmem S224x2x256 .i32) (harg4 : arg4.IsWhole) (arg5 : Memref sig .tc .vmem S28x256 .f16) (harg5 : arg5.IsWhole) (arg6 : Memref sig .tc .vmem S28x256 .f16) (harg6 : arg6.IsWhole) (arg7 : Memref sig .tc .vmem S28x256 .f16) (harg7 : arg7.IsWhole) (arg8 : Memref sig .tc .vmem S8x256 .i8) (harg8 : arg8.IsWhole) (arg9 : Memref sig .tc .vmem S1280x512 .bf16) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S224x256 .i32) (harg12 : arg12.IsWhole) (arg13 : Memref sig .tc .vmem S224x256 .f32) (harg13 : arg13.IsWhole)

/-- The decode loop `k0_t1_loop` from `arg2` and `arg5` into `arg10`. -/
@[sl_loop] def loopInv_k0_t1 (c : Dev nD) (v0 : Vec F S8x256 .i8) (k0_h1 : k0_cond1 i = 1#1) (XQ : BufTy.Contents (Elt F) arg2.view.ty)
    (XD : BufTy.Contents (Elt F) arg5.view.ty) (G : BufTy.Contents (Elt F) arg10.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v0 k0_h1 where
  inv := (outerInv0 (F := F) i arg1 harg1 arg2 harg2 arg3 harg3 arg2 harg2 arg5 harg5 arg6 harg6 arg5 harg5 arg8 harg8 arg9 harg9 arg10 harg10 arg11 harg11 arg12 harg12 arg13 harg13 c (k0_pay108 v0) (k0_pay109 v0) XQ XD G).inv
  step := (outerInv0 (F := F) i arg1 harg1 arg2 harg2 arg3 harg3 arg2 harg2 arg5 harg5 arg6 harg6 arg5 harg5 arg8 harg8 arg9 harg9 arg10 harg10 arg11 harg11 arg12 harg12 arg13 harg13 c (k0_pay108 v0) (k0_pay109 v0) XQ XD G).step

/-- The decode loop `k0_t3_loop` from `arg2` and `arg5` into `arg10`. -/
@[sl_loop] def loopInv_k0_t3 (c : Dev nD) (v0 : Vec F S8x256 .i8) (k0_h1 : k0_cond1 i = 1#1) (XQ : BufTy.Contents (Elt F) arg2.view.ty)
    (XD : BufTy.Contents (Elt F) arg5.view.ty) (G : BufTy.Contents (Elt F) arg10.view.ty) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v0 k0_h1 where
  inv := (outerInv1 (F := F) i arg1 harg1 arg2 harg2 arg3 harg3 arg2 harg2 arg5 harg5 arg6 harg6 arg5 harg5 arg8 harg8 arg9 harg9 arg10 harg10 arg11 harg11 arg12 harg12 arg13 harg13 c (k0_pay108 v0) (k0_pay109 v0) XQ XD G).inv
  step := (outerInv1 (F := F) i arg1 harg1 arg2 harg2 arg3 harg3 arg2 harg2 arg5 harg5 arg6 harg6 arg5 harg5 arg8 harg8 arg9 harg9 arg10 harg10 arg11 harg11 arg12 harg12 arg13 harg13 c (k0_pay108 v0) (k0_pay109 v0) XQ XD G).step

/-- The decode loop `k0_t5_loop` from `arg3` and `arg6` into `arg11`. -/
@[sl_loop] def loopInv_k0_t5 (c : Dev nD) (v39 v40 : IVec S8x128 32) (XQ : BufTy.Contents (Elt F) arg3.view.ty)
    (XD : BufTy.Contents (Elt F) arg6.view.ty) (G : BufTy.Contents (Elt F) arg11.view.ty) :
    LoopInvTy_k0_t5 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 where
  inv := (outerInv0 (F := F) i arg1 harg1 arg2 harg2 arg3 harg3 arg3 harg3 arg5 harg5 arg6 harg6 arg6 harg6 arg8 harg8 arg9 harg9 arg11 harg11 arg11 harg11 arg12 harg12 arg13 harg13 c v39 v40 XQ XD G).inv
  step := (outerInv0 (F := F) i arg1 harg1 arg2 harg2 arg3 harg3 arg3 harg3 arg5 harg5 arg6 harg6 arg6 harg6 arg8 harg8 arg9 harg9 arg11 harg11 arg11 harg11 arg12 harg12 arg13 harg13 c v39 v40 XQ XD G).step

/-- The decode loop `k0_t7_loop` from `arg3` and `arg6` into `arg11`. -/
@[sl_loop] def loopInv_k0_t7 (c : Dev nD) (v39 v40 : IVec S8x128 32) (XQ : BufTy.Contents (Elt F) arg3.view.ty)
    (XD : BufTy.Contents (Elt F) arg6.view.ty) (G : BufTy.Contents (Elt F) arg11.view.ty) :
    LoopInvTy_k0_t7 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v39 v40 where
  inv := (outerInv1 (F := F) i arg1 harg1 arg2 harg2 arg3 harg3 arg3 harg3 arg5 harg5 arg6 harg6 arg6 harg6 arg8 harg8 arg9 harg9 arg11 harg11 arg11 harg11 arg12 harg12 arg13 harg13 c v39 v40 XQ XD G).inv
  step := (outerInv1 (F := F) i arg1 harg1 arg2 harg2 arg3 harg3 arg3 harg3 arg5 harg5 arg6 harg6 arg6 harg6 arg8 harg8 arg9 harg9 arg11 harg11 arg11 harg11 arg12 harg12 arg13 harg13 c v39 v40 XQ XD G).step

end

end Cert.Proof.KernelIdeal

end
-- ==== Proof.DecodePieces.lean ====
/- Which pieces a decode of a weight tile stores, and that they cover the tile. -/
module

public import proofs.«01_k».proof.Proof.DecodeLoops

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx

variable {F : FTy → Type} [FloatOps F]

/-! ## The first 128 lanes -/

theorem k0_off25_eq : ∀ k : Fin k0_t9_loop.trips, k0_off25 k 0 = 8 * k.val ∧ k0_off25 k 1 = 1 ∧ k0_off25 k 2 = 0 := by decide +kernel
theorem k0_off27_eq : ∀ k : Fin k0_t9_loop.trips, k0_off27 k 0 = k.val ∧ k0_off27 k 1 = 0 := by decide +kernel
theorem k0_off28_eq : ∀ (k : Fin k0_t9_loop.trips) (j : Fin k0_t10_loop.trips),
    k0_off28 k j 0 = 8 * k.val + j.val ∧ k0_off28 k j 1 = 0 ∧ k0_off28 k j 2 = 0 := by decide +kernel
theorem k0_off30_lo : ∀ (k : Fin k0_t9_loop.trips) (j : Fin k0_t10_loop.trips),
    k0_off30 k j 0#32 0 = 32 * (8 * k.val + j.val) ∧ k0_off30 k j 0#32 1 = 0 := by decide +kernel
theorem k0_off30_hi : ∀ (k : Fin k0_t9_loop.trips) (j : Fin k0_t10_loop.trips),
    k0_off30 k j 16#32 0 = 32 * (8 * k.val + j.val) + 16 ∧ k0_off30 k j 16#32 1 = 0 := by decide +kernel
theorem superTrips0 : k0_t9_loop.trips = 28 := by decide +kernel

/-- What is stored for the blocks before `n` of superblock `k` is the two pieces of every block. -/
theorem mem_inner0 (tl th : IVec S8x128 32) (q : Vec F S224x2x256 .i32) (k : Fin k0_t9_loop.trips)
    (sg : Fin k0_t10_loop.trips → Vec F S1x128 .i32) (db : Fin k0_t10_loop.trips → Vec F S1x128 .f32)
    (p : View.Piece (Elt F) S7168x256 .bf16) (n : ℕ) :
    p ∈ inner0 tl th q k sg db n ↔ ∃ j : Fin k0_t10_loop.trips, j.val < n ∧ p ∈ pair0 tl th k j (word0 q k j) (sg j) (db j) := by
  induction n with
  | zero => simp [inner0]
  | succ n ih =>
    rw [inner0]
    split
    · rename_i h
      rw [List.mem_append, ih]
      constructor
      · rintro (hp | ⟨j, hj, hp⟩)
        · exact ⟨⟨n, h⟩, Nat.lt_succ_self n, hp⟩
        · exact ⟨j, Nat.lt_succ_of_lt hj, hp⟩
      · rintro ⟨j, hj, hp⟩
        rcases Nat.lt_succ_iff_lt_or_eq.mp hj with h' | h'
        · exact Or.inr ⟨j, h', hp⟩
        · obtain rfl : j = ⟨n, h⟩ := Fin.ext h'
          exact Or.inl hp
    · rename_i h
      rw [ih]
      exact ⟨fun ⟨j, hj, hp⟩ => ⟨j, Nat.lt_succ_of_lt hj, hp⟩, fun ⟨j, hj, hp⟩ => ⟨j, by have := j.isLt; omega, hp⟩⟩

/-- What is stored for the superblocks before `n` is what is stored for each. -/
theorem mem_outer0 (tl th : IVec S8x128 32) (q : Vec F S224x2x256 .i32) (d : Vec F S28x256 .f16)
    (p : View.Piece (Elt F) S7168x256 .bf16) (n : ℕ) :
    p ∈ outer0 tl th q d n ↔ ∃ k : Fin k0_t9_loop.trips, k.val < n ∧ p ∈ block0 tl th q d k := by
  induction n with
  | zero => simp [outer0]
  | succ n ih =>
    rw [outer0]
    split
    · rename_i h
      rw [List.mem_append, ih]
      constructor
      · rintro (hp | ⟨j, hj, hp⟩)
        · exact ⟨⟨n, h⟩, Nat.lt_succ_self n, hp⟩
        · exact ⟨j, Nat.lt_succ_of_lt hj, hp⟩
      · rintro ⟨j, hj, hp⟩
        rcases Nat.lt_succ_iff_lt_or_eq.mp hj with h' | h'
        · exact Or.inr ⟨j, h', hp⟩
        · obtain rfl : j = ⟨n, h⟩ := Fin.ext h'
          exact Or.inl hp
    · rename_i h
      rw [ih]
      exact ⟨fun ⟨j, hj, hp⟩ => ⟨j, Nat.lt_succ_of_lt hj, hp⟩, fun ⟨j, hj, hp⟩ => ⟨j, by have := j.isLt; omega, hp⟩⟩

/-- The sign words of block `j` of superblock `k`, one per lane. -/
def sgRow0 (q : Vec F S224x2x256 .i32) (k : Fin k0_t9_loop.trips) (j : Fin k0_t10_loop.trips) : Vec F S1x128 .i32 :=
  rowOf (F := F) (signRows (words0 q k)) j.val (trips0 ▸ j.isLt)

/-- The scales of block `j` of superblock `k`, one per lane. -/
def dbRow0 (q : Vec F S224x2x256 .i32) (d : Vec F S28x256 .f16) (k : Fin k0_t9_loop.trips) (j : Fin k0_t10_loop.trips) : Vec F S1x128 .f32 :=
  rowOf (F := F) (dbRows (words0 q k) (scale0 d k)) j.val (trips0 ▸ j.isLt)

theorem mem_all0 (tl th : IVec S8x128 32) (q : Vec F S224x2x256 .i32) (d : Vec F S28x256 .f16) (p : View.Piece (Elt F) S7168x256 .bf16) :
    p ∈ outer0 tl th q d k0_t9_loop.trips ↔
      ∃ (k : Fin k0_t9_loop.trips) (j : Fin k0_t10_loop.trips), p ∈ pair0 tl th k j (word0 q k j) (sgRow0 q k j) (dbRow0 q d k j) := by
  rw [mem_outer0]
  constructor
  · rintro ⟨k, -, hp⟩
    obtain ⟨j, -, hp⟩ := (mem_inner0 ..).mp hp
    exact ⟨k, j, hp⟩
  · rintro ⟨k, j, hp⟩
    exact ⟨k, k.isLt, (mem_inner0 ..).mpr ⟨j, j.isLt, hp⟩⟩

/-- Every index of these lanes is stored. -/
theorem cover0 (tl th : IVec S8x128 32) (q : Vec F S224x2x256 .i32) (d : Vec F S28x256 .f16) (y : S7168x256.Idx) (hl : 0 ≤ (y 1).val) (hu : (y 1).val < 0 + 128) :
    ∃ p ∈ outer0 tl th q d k0_t9_loop.trips, y ∈ p.1.set := by
  have hy : (y 0).val < 7168 := (y 0).isLt
  have ht := superTrips0
  have ht' := trips0
  let k : Fin k0_t9_loop.trips := ⟨(y 0).val / 256, by omega⟩
  let j : Fin k0_t10_loop.trips := ⟨(y 0).val / 32 % 8, by omega⟩
  have hk : k.val = (y 0).val / 256 := rfl
  have hj : j.val = (y 0).val / 32 % 8 := rfl
  obtain ⟨l0, l1⟩ := k0_off30_lo k j
  obtain ⟨h0, h1⟩ := k0_off30_hi k j
  by_cases hh : (y 0).val % 32 < 16
  · refine ⟨_, (mem_all0 ..).mpr ⟨k, j, List.mem_cons_of_mem _ (List.mem_cons_self ..)⟩, ?_⟩
    refine (Rect.mem_set_unit (inb := k0_off30_inb k j 0)).mpr fun a => ?_
    match a with
    | ⟨0, _⟩ =>
      show k0_off30 k j 0#32 0 ≤ (y 0).val ∧ (y 0).val < k0_off30 k j 0#32 0 + 16
      omega
    | ⟨1, _⟩ =>
      show k0_off30 k j 0#32 1 ≤ (y 1).val ∧ (y 1).val < k0_off30 k j 0#32 1 + 128
      omega
  · refine ⟨_, (mem_all0 ..).mpr ⟨k, j, List.mem_cons_self ..⟩, ?_⟩
    refine (Rect.mem_set_unit (inb := k0_off30_inb k j 1)).mpr fun a => ?_
    match a with
    | ⟨0, _⟩ =>
      show k0_off30 k j 16#32 0 ≤ (y 0).val ∧ (y 0).val < k0_off30 k j 16#32 0 + 16
      omega
    | ⟨1, _⟩ =>
      show k0_off30 k j 16#32 1 ≤ (y 1).val ∧ (y 1).val < k0_off30 k j 16#32 1 + 128
      omega

/-! ## The last 128 lanes -/

theorem k0_off31_eq : ∀ k : Fin k0_t11_loop.trips, k0_off31 k 0 = 8 * k.val ∧ k0_off31 k 1 = 1 ∧ k0_off31 k 2 = 128 := by decide +kernel
theorem k0_off33_eq : ∀ k : Fin k0_t11_loop.trips, k0_off33 k 0 = k.val ∧ k0_off33 k 1 = 128 := by decide +kernel
theorem k0_off34_eq : ∀ (k : Fin k0_t11_loop.trips) (j : Fin k0_t12_loop.trips),
    k0_off34 k j 0 = 8 * k.val + j.val ∧ k0_off34 k j 1 = 0 ∧ k0_off34 k j 2 = 128 := by decide +kernel
theorem k0_off36_lo : ∀ (k : Fin k0_t11_loop.trips) (j : Fin k0_t12_loop.trips),
    k0_off36 k j 0#32 0 = 32 * (8 * k.val + j.val) ∧ k0_off36 k j 0#32 1 = 128 := by decide +kernel
theorem k0_off36_hi : ∀ (k : Fin k0_t11_loop.trips) (j : Fin k0_t12_loop.trips),
    k0_off36 k j 16#32 0 = 32 * (8 * k.val + j.val) + 16 ∧ k0_off36 k j 16#32 1 = 128 := by decide +kernel
theorem superTrips1 : k0_t11_loop.trips = 28 := by decide +kernel

/-- What is stored for the blocks before `n` of superblock `k` is the two pieces of every block. -/
theorem mem_inner1 (tl th : IVec S8x128 32) (q : Vec F S224x2x256 .i32) (k : Fin k0_t11_loop.trips)
    (sg : Fin k0_t12_loop.trips → Vec F S1x128 .i32) (db : Fin k0_t12_loop.trips → Vec F S1x128 .f32)
    (p : View.Piece (Elt F) S7168x256 .bf16) (n : ℕ) :
    p ∈ inner1 tl th q k sg db n ↔ ∃ j : Fin k0_t12_loop.trips, j.val < n ∧ p ∈ pair1 tl th k j (word1 q k j) (sg j) (db j) := by
  induction n with
  | zero => simp [inner1]
  | succ n ih =>
    rw [inner1]
    split
    · rename_i h
      rw [List.mem_append, ih]
      constructor
      · rintro (hp | ⟨j, hj, hp⟩)
        · exact ⟨⟨n, h⟩, Nat.lt_succ_self n, hp⟩
        · exact ⟨j, Nat.lt_succ_of_lt hj, hp⟩
      · rintro ⟨j, hj, hp⟩
        rcases Nat.lt_succ_iff_lt_or_eq.mp hj with h' | h'
        · exact Or.inr ⟨j, h', hp⟩
        · obtain rfl : j = ⟨n, h⟩ := Fin.ext h'
          exact Or.inl hp
    · rename_i h
      rw [ih]
      exact ⟨fun ⟨j, hj, hp⟩ => ⟨j, Nat.lt_succ_of_lt hj, hp⟩, fun ⟨j, hj, hp⟩ => ⟨j, by have := j.isLt; omega, hp⟩⟩

/-- What is stored for the superblocks before `n` is what is stored for each. -/
theorem mem_outer1 (tl th : IVec S8x128 32) (q : Vec F S224x2x256 .i32) (d : Vec F S28x256 .f16)
    (p : View.Piece (Elt F) S7168x256 .bf16) (n : ℕ) :
    p ∈ outer1 tl th q d n ↔ ∃ k : Fin k0_t11_loop.trips, k.val < n ∧ p ∈ block1 tl th q d k := by
  induction n with
  | zero => simp [outer1]
  | succ n ih =>
    rw [outer1]
    split
    · rename_i h
      rw [List.mem_append, ih]
      constructor
      · rintro (hp | ⟨j, hj, hp⟩)
        · exact ⟨⟨n, h⟩, Nat.lt_succ_self n, hp⟩
        · exact ⟨j, Nat.lt_succ_of_lt hj, hp⟩
      · rintro ⟨j, hj, hp⟩
        rcases Nat.lt_succ_iff_lt_or_eq.mp hj with h' | h'
        · exact Or.inr ⟨j, h', hp⟩
        · obtain rfl : j = ⟨n, h⟩ := Fin.ext h'
          exact Or.inl hp
    · rename_i h
      rw [ih]
      exact ⟨fun ⟨j, hj, hp⟩ => ⟨j, Nat.lt_succ_of_lt hj, hp⟩, fun ⟨j, hj, hp⟩ => ⟨j, by have := j.isLt; omega, hp⟩⟩

/-- The sign words of block `j` of superblock `k`, one per lane. -/
def sgRow1 (q : Vec F S224x2x256 .i32) (k : Fin k0_t11_loop.trips) (j : Fin k0_t12_loop.trips) : Vec F S1x128 .i32 :=
  rowOf (F := F) (signRows (words1 q k)) j.val (trips1 ▸ j.isLt)

/-- The scales of block `j` of superblock `k`, one per lane. -/
def dbRow1 (q : Vec F S224x2x256 .i32) (d : Vec F S28x256 .f16) (k : Fin k0_t11_loop.trips) (j : Fin k0_t12_loop.trips) : Vec F S1x128 .f32 :=
  rowOf (F := F) (dbRows (words1 q k) (scale1 d k)) j.val (trips1 ▸ j.isLt)

theorem mem_all1 (tl th : IVec S8x128 32) (q : Vec F S224x2x256 .i32) (d : Vec F S28x256 .f16) (p : View.Piece (Elt F) S7168x256 .bf16) :
    p ∈ outer1 tl th q d k0_t11_loop.trips ↔
      ∃ (k : Fin k0_t11_loop.trips) (j : Fin k0_t12_loop.trips), p ∈ pair1 tl th k j (word1 q k j) (sgRow1 q k j) (dbRow1 q d k j) := by
  rw [mem_outer1]
  constructor
  · rintro ⟨k, -, hp⟩
    obtain ⟨j, -, hp⟩ := (mem_inner1 ..).mp hp
    exact ⟨k, j, hp⟩
  · rintro ⟨k, j, hp⟩
    exact ⟨k, k.isLt, (mem_inner1 ..).mpr ⟨j, j.isLt, hp⟩⟩

/-- Every index of these lanes is stored. -/
theorem cover1 (tl th : IVec S8x128 32) (q : Vec F S224x2x256 .i32) (d : Vec F S28x256 .f16) (y : S7168x256.Idx) (hl : 128 ≤ (y 1).val) (hu : (y 1).val < 128 + 128) :
    ∃ p ∈ outer1 tl th q d k0_t11_loop.trips, y ∈ p.1.set := by
  have hy : (y 0).val < 7168 := (y 0).isLt
  have ht := superTrips1
  have ht' := trips1
  let k : Fin k0_t11_loop.trips := ⟨(y 0).val / 256, by omega⟩
  let j : Fin k0_t12_loop.trips := ⟨(y 0).val / 32 % 8, by omega⟩
  have hk : k.val = (y 0).val / 256 := rfl
  have hj : j.val = (y 0).val / 32 % 8 := rfl
  obtain ⟨l0, l1⟩ := k0_off36_lo k j
  obtain ⟨h0, h1⟩ := k0_off36_hi k j
  by_cases hh : (y 0).val % 32 < 16
  · refine ⟨_, (mem_all1 ..).mpr ⟨k, j, List.mem_cons_of_mem _ (List.mem_cons_self ..)⟩, ?_⟩
    refine (Rect.mem_set_unit (inb := k0_off36_inb k j 0)).mpr fun a => ?_
    match a with
    | ⟨0, _⟩ =>
      show k0_off36 k j 0#32 0 ≤ (y 0).val ∧ (y 0).val < k0_off36 k j 0#32 0 + 16
      omega
    | ⟨1, _⟩ =>
      show k0_off36 k j 0#32 1 ≤ (y 1).val ∧ (y 1).val < k0_off36 k j 0#32 1 + 128
      omega
  · refine ⟨_, (mem_all1 ..).mpr ⟨k, j, List.mem_cons_self ..⟩, ?_⟩
    refine (Rect.mem_set_unit (inb := k0_off36_inb k j 1)).mpr fun a => ?_
    match a with
    | ⟨0, _⟩ =>
      show k0_off36 k j 16#32 0 ≤ (y 0).val ∧ (y 0).val < k0_off36 k j 16#32 0 + 16
      omega
    | ⟨1, _⟩ =>
      show k0_off36 k j 16#32 1 ≤ (y 1).val ∧ (y 1).val < k0_off36 k j 16#32 1 + 128
      omega

/-! ## A decoded tile -/

/-- The pieces a decode of a whole tile stores, the last first. -/
def decPieces (tl th : IVec S8x128 32) (q : Vec F S224x2x256 .i32) (d : Vec F S28x256 .f16) : List (View.Piece (Elt F) S7168x256 .bf16) :=
  outer1 tl th q d k0_t11_loop.trips ++ outer0 tl th q d k0_t9_loop.trips

/-- The weight tile decoded from the grid bytes `g`, the packed words `q` and the scales `d`. -/
def decTile (g : Vec F S8x256 .i8) (q : Vec F S224x2x256 .i32) (d : Vec F S28x256 .f16) : Vec F S7168x256 .bf16 :=
  View.canon (decPieces (k0_pay108 g) (k0_pay109 g) q d)

/-- Every index of the tile is stored. -/
theorem decPieces_cover (tl th : IVec S8x128 32) (q : Vec F S224x2x256 .i32) (d : Vec F S28x256 .f16) (y : S7168x256.Idx) :
    ∃ p ∈ decPieces tl th q d, y ∈ p.1.set := by
  have hy : (y 1).val < 256 := (y 1).isLt
  by_cases h : (y 1).val < 128
  · obtain ⟨p, hp, h'⟩ := cover0 tl th q d y (Nat.zero_le _) (by omega)
    exact ⟨p, List.mem_append_right _ hp, h'⟩
  · obtain ⟨p, hp, h'⟩ := cover1 tl th q d y (by omega) (by omega)
    exact ⟨p, List.mem_append_left _ hp, h'⟩

end Cert.Proof.KernelIdeal

end
-- ==== Proof.DecodeRun.lean ====
/- The kernel's run with what it computes: the contents of the weight scratch from point to point, and the output block of
   every point. -/
module

public import proofs.«01_k».proof.Proof.DecodePieces
public import proofs.«01_k».proof.Proof.Gen.KernelIdeal.Frame
public import Idealize.ShloMosaic.Lib.Pipeline.Value
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

/-- The output block of the input rows `x` and the two weight tiles. -/
def outTile (x : Vec F S1280x7168 .bf16) (w0 w1 : Vec F S7168x256 .bf16) : Vec F S1280x512 .bf16 :=
  View.canon [⟨Rect.unit (s := S1280x512) ![0, 256] S1280x256.size (by decide), k0_pay126 x w1⟩,
    ⟨Rect.unit (s := S1280x512) ![0, 0] S1280x256.size (by decide), k0_pay118 x w0⟩]

theorem outTile_of {x x' : Vec F S1280x7168 .bf16} {w0 w0' w1 w1' : Vec F S7168x256 .bf16} (hx : x' = x) (h0 : w0' = w0) (h1 : w1' = w1) :
    View.canon [⟨Rect.unit (s := S1280x512) ![0, 256] S1280x256.size inb_S1280x512_S1280x256_0_256, k0_pay126 x' w1'⟩,
      ⟨Rect.unit (s := S1280x512) ![0, 0] S1280x256.size inb_S1280x512_S1280x256_0_0, k0_pay118 x' w0'⟩] = outTile x w0 w1 := by
  subst hx h0 h1; rfl

/-- A buffer a whole decode was stored into holds the decoded tile. -/
theorem written_tile (V : View sig .tc .vmem S7168x256 .bf16) (f : V.ty.Contents (Elt F)) (V8 : View sig .tc .vmem S8x256 .i8)
    (f8 : V8.ty.Contents (Elt F)) (q : Vec F S224x2x256 .i32) (d : Vec F S28x256 .f16) :
    V.read (Elt F) (V.writes (Elt F) f
      (outer1 (k0_pay108 (V8.readAt (Elt F) (Rect.unit ![0, 0] S8x256.size inb_S8x256_S8x256_0_0).toLoadRect f8))
        (k0_pay109 (V8.readAt (Elt F) (Rect.unit ![0, 0] S8x256.size inb_S8x256_S8x256_0_0).toLoadRect f8)) q d k0_t11_loop.trips
      ++ outer0 (k0_pay108 (V8.readAt (Elt F) (Rect.unit ![0, 0] S8x256.size inb_S8x256_S8x256_0_0).toLoadRect f8))
        (k0_pay109 (V8.readAt (Elt F) (Rect.unit ![0, 0] S8x256.size inb_S8x256_S8x256_0_0).toLoadRect f8)) q d k0_t9_loop.trips)) =
      decTile (V8.read (Elt F) f8) q d := by
  have h : V8.readAt (Elt F) (Rect.unit ![0, 0] S8x256.size inb_S8x256_S8x256_0_0).toLoadRect f8 = V8.read (Elt F) f8 :=
    View.readAt_full V8 f8 inb_S8x256_S8x256_0_0
  rw [h]
  exact View.read_writes_eq_canon _ _ _ (decPieces_cover _ _ _ _)

/-- A load of the whole of such a buffer reads the decoded tile. -/
theorem loaded_tile (V : View sig .tc .vmem S7168x256 .bf16) (V8 : View sig .tc .vmem S8x256 .i8)
    (f8 : V8.ty.Contents (Elt F)) (q : Vec F S224x2x256 .i32) (d : Vec F S28x256 .f16) :
    V.readCov
      (outer1 (k0_pay108 (V8.readAt (Elt F) (Rect.unit ![0, 0] S8x256.size inb_S8x256_S8x256_0_0).toLoadRect f8))
        (k0_pay109 (V8.readAt (Elt F) (Rect.unit ![0, 0] S8x256.size inb_S8x256_S8x256_0_0).toLoadRect f8)) q d k0_t11_loop.trips
      ++ outer0 (k0_pay108 (V8.readAt (Elt F) (Rect.unit ![0, 0] S8x256.size inb_S8x256_S8x256_0_0).toLoadRect f8))
        (k0_pay109 (V8.readAt (Elt F) (Rect.unit ![0, 0] S8x256.size inb_S8x256_S8x256_0_0).toLoadRect f8)) q d k0_t9_loop.trips)
      (Rect.unit ![0, 0] S7168x256.size inb_S7168x256_S7168x256_0_0).toLoadRect = decTile (V8.read (Elt F) f8) q d := by
  have h : V8.readAt (Elt F) (Rect.unit ![0, 0] S8x256.size inb_S8x256_S8x256_0_0).toLoadRect f8 = V8.read (Elt F) f8 :=
    View.readAt_full V8 f8 inb_S8x256_S8x256_0_0
  rw [h]
  exact (View.readCov_eq_canon_ld V _ _ (decPieces_cover _ _ _ _)).trans (View.ld_unit_zero (by decide) _ _)

/-- A memref held at the elements it names, some contents read. -/
abbrev some_ (c : Dev nD) {s : Shape} {e : EltTy} (M : Memref sig .tc .vmem s e) : sProp 𝕄 :=
  iprop(∃ d, owns (c : Thread nD τ) M fullShare d)

set_option maxHeartbeats 2000000 in
/-- The body at the first point: both scratch tiles at anything; the first one is decoded here. -/
theorem sound_first (c : Dev nD) (i : grid0.Coords) (arg1 : Memref sig .tc .vmem S1280x7168 .bf16) (harg1 : arg1.IsWhole) (arg2 : Memref sig .tc .vmem S224x2x256 .i32) (harg2 : arg2.IsWhole) (arg3 : Memref sig .tc .vmem S224x2x256 .i32) (harg3 : arg3.IsWhole) (arg4 : Memref sig .tc .vmem S224x2x256 .i32) (harg4 : arg4.IsWhole) (arg5 : Memref sig .tc .vmem S28x256 .f16) (harg5 : arg5.IsWhole) (arg6 : Memref sig .tc .vmem S28x256 .f16) (harg6 : arg6.IsWhole) (arg7 : Memref sig .tc .vmem S28x256 .f16) (harg7 : arg7.IsWhole) (arg8 : Memref sig .tc .vmem S8x256 .i8) (harg8 : arg8.IsWhole) (arg9 : Memref sig .tc .vmem S1280x512 .bf16) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S224x256 .i32) (harg12 : arg12.IsWhole) (arg13 : Memref sig .tc .vmem S224x256 .f32) (harg13 : arg13.IsWhole)
    (hc : k0_cond1 i = 1#1) (x1 : Vec F S1280x7168 .bf16) (x2 x3 x4 : Vec F S224x2x256 .i32) (x5 x6 x7 : Vec F S28x256 .f16) (x8 : Vec F S8x256 .i8) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ some_ c arg9 ∗ some_ c arg10 ∗ some_ c arg11 ∗ some_ c arg12 ∗ some_ c arg13
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ owns (c : Thread nD τ) arg9 fullShare (outTile x1 (decTile x8 x2 x5) (decTile x8 x3 x6)) ∗ owns (c : Thread nD τ) arg10 fullShare (decTile x8 x4 x7) ∗ some_ c arg11 ∗ some_ c arg12 ∗ some_ c arg13) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold some_ owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5 hf6 hf7 hf8
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  isplitl [H9]
  · iexists _; isplitr; swap; (· iexact H9)
    ipureintro
    delta sound_first.sl.H9_2 sound_first.sl.v61 sound_first.sl.v46 sound_first.sl.r sound_first.sl.r_1
    exact (View.read_writes_junk_eq_canon ..).trans (outTile_of (View.readAt_full ..) (loaded_tile ..) (loaded_tile ..))
  isplitl [H10]
  · iexists _; isplitr; swap; (· iexact H10)
    ipureintro
    delta sound_first.sl.r sound_first.sl.r_1
    exact written_tile ..
  isplitl [H11]; · iexists _; iexists _; isplitr; swap; (· iexact H11); ipureintro; rfl
  isplitl [H12]; · iexists _; iexists _; isplitr; swap; (· iexact H12); ipureintro; rfl
  iexists _; iexists _; isplitr; swap; (· iexact H13); ipureintro; rfl

set_option maxHeartbeats 2000000 in
/-- The body at a later point: the first scratch tile at what the point before left. -/
theorem sound_rest (c : Dev nD) (i : grid0.Coords) (arg1 : Memref sig .tc .vmem S1280x7168 .bf16) (harg1 : arg1.IsWhole) (arg2 : Memref sig .tc .vmem S224x2x256 .i32) (harg2 : arg2.IsWhole) (arg3 : Memref sig .tc .vmem S224x2x256 .i32) (harg3 : arg3.IsWhole) (arg4 : Memref sig .tc .vmem S224x2x256 .i32) (harg4 : arg4.IsWhole) (arg5 : Memref sig .tc .vmem S28x256 .f16) (harg5 : arg5.IsWhole) (arg6 : Memref sig .tc .vmem S28x256 .f16) (harg6 : arg6.IsWhole) (arg7 : Memref sig .tc .vmem S28x256 .f16) (harg7 : arg7.IsWhole) (arg8 : Memref sig .tc .vmem S8x256 .i8) (harg8 : arg8.IsWhole) (arg9 : Memref sig .tc .vmem S1280x512 .bf16) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S224x256 .i32) (harg12 : arg12.IsWhole) (arg13 : Memref sig .tc .vmem S224x256 .f32) (harg13 : arg13.IsWhole)
    (hc : ¬ k0_cond1 i = 1#1) (W : Vec F S7168x256 .bf16) (x1 : Vec F S1280x7168 .bf16) (x2 x3 x4 : Vec F S224x2x256 .i32) (x5 x6 x7 : Vec F S28x256 .f16) (x8 : Vec F S8x256 .i8) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ some_ c arg9 ∗ owns (c : Thread nD τ) arg10 fullShare W ∗ some_ c arg11 ∗ some_ c arg12 ∗ some_ c arg13
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ owns (c : Thread nD τ) arg9 fullShare (outTile x1 W (decTile x8 x3 x6)) ∗ owns (c : Thread nD τ) arg10 fullShare (decTile x8 x4 x7) ∗ some_ c arg11 ∗ some_ c arg12 ∗ some_ c arg13) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold some_ owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, Hk⟩
  subst hf1 hf2 hf3 hf4 hf5 hf6 hf7 hf8 hf10
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  isplitl [H9]
  · iexists _; isplitr; swap; (· iexact H9)
    ipureintro
    delta sound_rest.sl.H9_2 sound_rest.sl.v61  sound_rest.sl.r sound_rest.sl.r_1
    exact (View.read_writes_junk_eq_canon ..).trans (outTile_of (View.readAt_full ..) (View.readAt_full ..) (loaded_tile ..))
  isplitl [H10]
  · iexists _; isplitr; swap; (· iexact H10)
    ipureintro
    delta sound_rest.sl.r sound_rest.sl.r_1
    exact written_tile ..
  isplitl [H11]; · iexists _; iexists _; isplitr; swap; (· iexact H11); ipureintro; rfl
  isplitl [H12]; · iexists _; iexists _; isplitr; swap; (· iexact H12); ipureintro; rfl
  iexists _; iexists _; isplitr; swap; (· iexact H13); ipureintro; rfl

end Cert.Proof.KernelIdeal

end
-- ==== Proof.IdealRun.lean ====
/- The kernel's run with what it computes, from point to point: the first weight scratch holds before each point but the
   first the tile decoded at the point before; every output block is the product of the input rows and two decoded tiles. -/
module

public import proofs.«01_k».proof.Proof.DecodeRun

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before. -/
def prev (t : Fin cfg0.N) : Fin cfg0.N := ⟨t.val - 1, by have := t.isLt; omega⟩

/-- The tile decoded first at point `t` (only the first point does), second, and third. -/
def tileA (c : Dev nD) (t : Fin cfg0.N) : Vec F S7168x256 .bf16 := decTile (iblk m c 7 t) (iblk m c 1 t) (iblk m c 4 t)
def tileB (c : Dev nD) (t : Fin cfg0.N) : Vec F S7168x256 .bf16 := decTile (iblk m c 7 t) (iblk m c 2 t) (iblk m c 5 t)
def tileC (c : Dev nD) (t : Fin cfg0.N) : Vec F S7168x256 .bf16 := decTile (iblk m c 7 t) (iblk m c 3 t) (iblk m c 6 t)

/-- The tile the first product of point `t` uses. -/
def tile0 (c : Dev nD) (t : Fin cfg0.N) : Vec F S7168x256 .bf16 := if t.val = 0 then tileA m c t else tileC m c (prev t)

/-- The output block of point `t`. -/
def outBlk (c : Dev nD) (t : Fin cfg0.N) : Vec F S1280x512 .bf16 := outTile (iblk m c 0 t) (tile0 m c t) (tileB m c t)

/-- What the scratch buffers hold after `n` points: the first tile what the last point decoded, the others anything. -/
def carry (c : Dev nD) (n : ℕ) : sProp 𝕄 :=
  iprop(((∃ W, owns (c : Thread nD τ) (Memref.whole cc0_scratch0) fullShare W ∗ ⌜∀ s : Fin cfg0.N, s.val + 1 = n → W = tileC m c s⌝)
    ∗ some_ c (Memref.whole cc0_scratch1) ∗ some_ c (Memref.whole cc0_scratch2) ∗ some_ c (Memref.whole cc0_scratch3))
    ∗ ∃ r, prngReg c r)

theorem carry_of_ΦA (c : Dev nD) : Pipeline.ΦA spec0 c ⊢ carry m c 0 := by
  unfold Pipeline.ΦA carry some_
  rw [scopedRest0_eq]
  simp only [← owns_whole]
  iintro ⟨⟨⟨%W, HS0⟩, HS1, HS2, HS3⟩, Hg⟩
  isplitl [HS0 HS1 HS2 HS3]
  · isplitl [HS0]
    · iexists W; isplitl [HS0]; · iexact HS0
      ipureintro; intro s hs; omega
    isplitl [HS1]; · iexact HS1
    isplitl [HS2]; · iexact HS2
    iexact HS3
  iexact Hg

theorem ΦA_of_carry (c : Dev nD) (n : ℕ) : carry m c n ⊢ Pipeline.ΦA spec0 c := by
  unfold Pipeline.ΦA carry some_
  rw [scopedRest0_eq]
  simp only [← owns_whole]
  iintro ⟨⟨⟨%W, HS0, -⟩, HS1, HS2, HS3⟩, Hg⟩
  isplitl [HS0 HS1 HS2 HS3]
  · isplitl [HS0]; · iexists W; iexact HS0
    isplitl [HS1]; · iexact HS1
    isplitl [HS2]; · iexact HS2
    iexact HS3
  iexact Hg

/-- The proof data on core `c`: the arrays as the region finds them; each input block left as it is; the output block the
    product; the scratch what the points so far left. The packed words are three windows' array and so are the scales:
    each window holds its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := carry m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The decode of the first tile happens at the first point alone. -/
theorem cond_iff : ∀ t : Fin cfg0.N, k0_cond1 (cfg0.grid.coords t) = 1#1 ↔ t.val = 0 := by decide +kernel

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.castSucc = carry m c t.val from rfl, show (dats m 0 c).Φ t.succ = carry m c (t.val + 1) from rfl,
    after0_0, after0_1, after0_2, after0_3, after0_4, after0_5, after0_6, after0_7, after0_8]
  unfold carry
  iintro ⟨⟨⟨⟨%W, HS0, %hW⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h : t.val = 0
  · have hout : outBlk m c t = outTile (iblk m c 0 t) (tileA m c t) (tileB m c t) := by unfold outBlk tile0; rw [if_pos h]
    iapply (sound_first c _ _ _ _ _ _ _ _ _ _ _ _ _ _ _ _ _ _ _ _ _ _ _ _ _ _ _ ((cond_iff t).mpr h) (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists W; iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]
        · iexists (tileC m c t); isplitl [HS0]; · iexact HS0
          ipureintro; intro s hs
          obtain rfl : s = t := Fin.ext (Nat.succ_injective hs)
          rfl
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [hout]; iexact H8
  · have hp : W = tileC m c (prev t) := hW (prev t) (by show t.val - 1 + 1 = t.val; omega)
    have hout : outBlk m c t = outTile (iblk m c 0 t) W (tileB m c t) := by unfold outBlk tile0; rw [if_neg h, hp]
    iapply (sound_rest c _ _ _ _ _ _ _ _ _ _ _ _ _ _ _ _ _ _ _ _ _ _ _ _ _ _ _ (fun hc => h ((cond_iff t).mp hc)) W (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]
        · iexists (tileC m c t); isplitl [HS0]; · iexact HS0
          ipureintro; intro s hs
          obtain rfl : s = t := Fin.ext (Nat.succ_injective hs)
          rfl
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [hout]; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) :
    BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution terminates; every window's array ends at what the points wrote, every other buffer as the region found
    it, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m)
    (hin := fun c => carry_of_ΦA m c) (hout := fun c => ΦA_of_carry m c _)

/-- THE FRAME of the kernel, with its result: the arguments end unchanged, every counter at zero, and the result array at
    what the points wrote. -/
theorem run : θ_run defs (onTc (τ := τ) (main (F := F))) ⟨m, fun _ => 0, ρ⟩ (fun r => (∀ c : Dev nD,
      r.2.mem ((c.tc : Thread nD τ).loc main_v3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c).1 8, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 6).trans (((dats m 0 c).arrAt_in 6 rfl _).trans ((A_eq m c 6).trans (V_main_arg2 m c))),
      ((h.1 c).2 main_arg3 (Pipeline.mem_restRefs_of main_arg3 (by decide) (by decide))).trans (V_main_arg3 m c)⟩, h.2⟩)
    (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run m ρ)

end Cert.Proof.KernelIdeal

end
-- ==== Proof.SignBits.lean ====
/- The bits of the sign words: the packed unshuffle of four parity-extended 7-bit codes, bit by bit, and the plain
   extraction of a code with its parity. -/
module

public import Idealize.ShloMosaic.PureOps
public import Idealize.ShloMosaic.Lib.Tactic
public import Idealize.ShloMosaic.Lib.BitcastFour
public import Mathlib.Tactic.IntervalCases

@[expose] public section

namespace Cert.Proof.SignBits

open Idealize.ShloMosaic

/-- The four 7-bit codes of a word, one to each byte. -/
def spread (b : BitVec 32) : BitVec 32 :=
  (((b &&& 127#32) ||| ((b &&& 16256#32) <<< 1)) ||| ((b &&& 2080768#32) <<< 2)) ||| ((b &&& 266338304#32) <<< 3)

/-- The same with bit 7 of each byte the parity of the other seven. -/
def withParity (y : BitVec 32) : BitVec 32 :=
  let t := y ^^^ (y >>> 4)
  let t := t ^^^ (t >>> 2)
  let t := t ^^^ (t >>> 1)
  y ||| ((t &&& 16843009#32) <<< 7)

/-- Exchange the bits under the mask `m` with those `s` places above. -/
def swap (s : ℕ) (m y : BitVec 32) : BitVec 32 :=
  let t := (y ^^^ (y >>> s)) &&& m
  (y ^^^ t) ^^^ (t <<< s)

/-- The sign word of a sub-block: its 32 sign bits, the even ones in the low half and the odd ones in the high half. -/
def signWord (b : BitVec 32) : BitVec 32 :=
  swap 8 65280#32 (swap 4 15728880#32 (swap 2 202116108#32 (swap 1 572662306#32 (withParity (spread b)))))

/-- Sign bit `R` of a sub-block: bit `R % 8` of its code `R / 8`, the parity of the code where that is bit 7. -/
def codeBit (b : BitVec 32) (R : ℕ) : Bool :=
  if R % 8 < 7 then b.getLsbD (7 * (R / 8) + R % 8)
  else (((b.getLsbD (7 * (R / 8)) ^^ b.getLsbD (7 * (R / 8) + 4)) ^^ (b.getLsbD (7 * (R / 8) + 2) ^^ b.getLsbD (7 * (R / 8) + 6)))
    ^^ ((b.getLsbD (7 * (R / 8) + 1) ^^ b.getLsbD (7 * (R / 8) + 5)) ^^ b.getLsbD (7 * (R / 8) + 3)))

/-- Where the bits that `swap 1` leaves come from; likewise for 2, 4 and 8. -/
def from1 (i : ℕ) : ℕ := if i % 4 = 1 then i + 1 else if i % 4 = 2 then i - 1 else i
def from2 (i : ℕ) : ℕ := if i % 8 / 2 = 1 then i + 2 else if i % 8 / 2 = 2 then i - 2 else i
def from4 (i : ℕ) : ℕ := if i % 16 / 4 = 1 then i + 4 else if i % 16 / 4 = 2 then i - 4 else i
def from8 (i : ℕ) : ℕ := if i / 8 = 1 then i + 8 else if i / 8 = 2 then i - 8 else i

theorem xor_cancel : ∀ a b : Bool, (a ^^ (b ^^ a)) = b := by decide

theorem swap1 (y : BitVec 32) (i : ℕ) (hi : i < 32) : (swap 1 572662306#32 y).getLsbD i = y.getLsbD (from1 i) := by
  interval_cases i <;> simp [swap, xor_cancel, from1]
theorem swap2 (y : BitVec 32) (i : ℕ) (hi : i < 32) : (swap 2 202116108#32 y).getLsbD i = y.getLsbD (from2 i) := by
  interval_cases i <;> simp [swap, xor_cancel, from2]
theorem swap4 (y : BitVec 32) (i : ℕ) (hi : i < 32) : (swap 4 15728880#32 y).getLsbD i = y.getLsbD (from4 i) := by
  interval_cases i <;> simp [swap, xor_cancel, from4]
theorem swap8 (y : BitVec 32) (i : ℕ) (hi : i < 32) : (swap 8 65280#32 y).getLsbD i = y.getLsbD (from8 i) := by
  interval_cases i <;> simp [swap, xor_cancel, from8]

theorem spread_bit (b : BitVec 32) (i : ℕ) (hi : i < 32) :
    (spread b).getLsbD i = if i % 8 < 7 then b.getLsbD (7 * (i / 8) + i % 8) else false := by
  interval_cases i <;> simp [spread]

theorem withParity_bit (b : BitVec 32) (i : ℕ) (hi : i < 32) : (withParity (spread b)).getLsbD i = codeBit b i := by
  have h := spread_bit b
  generalize spread b = y at h
  interval_cases i <;> simp [withParity, codeBit, ← BitVec.getLsbD_eq_getElem, h]

/-- Where sign bit `R` lies in a sign word. -/
def place (R : ℕ) : ℕ := if R % 2 = 0 then R / 2 else 16 + R / 2

theorem signWord_bit (b : BitVec 32) (R : ℕ) (hR : R < 32) : (signWord b).getLsbD (place R) = codeBit b R := by
  have e : ∀ R < 32, place R < 32 ∧ from8 (place R) < 32 ∧ from4 (from8 (place R)) < 32 ∧ from2 (from4 (from8 (place R))) < 32 ∧
      from1 (from2 (from4 (from8 (place R)))) = R := by decide
  obtain ⟨h8, h4, h2, h1, h⟩ := e R hR
  rw [signWord, swap8 _ _ h8, swap4 _ _ h4, swap2 _ _ h2, swap1 _ _ h1, h, withParity_bit b R hR]

/-- A bit picked out of a sign word through a shift that brings it to bit 15. -/
theorem low_bit (x : BitVec 32) (n p : ℕ) (hp : p + n = 15) :
    ((x <<< n) &&& 2147516416#32) &&& 32768#32 = if x.getLsbD p then 32768#32 else 0#32 := by
  have e : ((x <<< n) &&& 2147516416#32) &&& 32768#32 = (x <<< n) &&& BitVec.twoPow 32 15 := by
    rw [BitVec.and_assoc]; rfl
  rw [e, BitVec.and_twoPow, BitVec.getLsbD_shiftLeft]
  have h1 : decide (15 < n) = false := by simp; omega
  have h2 : 15 - n = p := by omega
  simp only [h1, h2, show decide (15 < 32) = true from rfl, Bool.not_false, Bool.true_and]
  rfl

/-- And to bit 31. -/
theorem high_bit (x : BitVec 32) (n p : ℕ) (hp : p + n = 31) :
    ((x <<< n) &&& 2147516416#32) &&& 2147483648#32 = if x.getLsbD p then 2147483648#32 else 0#32 := by
  have e : ((x <<< n) &&& 2147516416#32) &&& 2147483648#32 = (x <<< n) &&& BitVec.twoPow 32 31 := by
    rw [BitVec.and_assoc]; rfl
  rw [e, BitVec.and_twoPow, BitVec.getLsbD_shiftLeft]
  have h1 : decide (31 < n) = false := by simp; omega
  have h2 : 31 - n = p := by omega
  simp only [h1, h2, show decide (31 < 32) = true from rfl, Bool.not_false, Bool.true_and]
  rfl

/-- A code with its parity as bit 7. -/
def coded (c : BitVec 32) : BitVec 32 := c ||| ((IntOp.ctpop c &&& 1#32) <<< 7)

theorem coded_bits : ∀ n < 128, ∀ j < 8, (coded (BitVec.ofNat 32 n) >>> j) &&& 1#32 =
    if (if j < 7 then n.testBit j else (((n.testBit 0 ^^ n.testBit 4) ^^ (n.testBit 2 ^^ n.testBit 6)) ^^ ((n.testBit 1 ^^ n.testBit 5) ^^ n.testBit 3)))
    then 1#32 else 0#32 := by
  decide +kernel

/-- Bit `j` of code `f` of a word with its parity, extracted plainly. -/
theorem coded_bit (b : BitVec 32) (f j : ℕ) (hf : f < 4) (hj : j < 8) :
    (coded ((b >>> (7 * f)) &&& 127#32) >>> j) &&& 1#32 = if codeBit b (8 * f + j) then 1#32 else 0#32 := by
  have hc : ((b >>> (7 * f)) &&& 127#32).toNat < 128 := by
    rw [BitVec.toNat_and]; exact lt_of_le_of_lt Nat.and_le_right (by decide)
  have hbit : ∀ i < 7, ((b >>> (7 * f)) &&& 127#32).toNat.testBit i = b.getLsbD (7 * f + i) := by
    intro i hi
    rw [BitVec.testBit_toNat, BitVec.getLsbD_and, BitVec.getLsbD_ushiftRight]
    have : (127#32).getLsbD i = true := by interval_cases i <;> rfl
    rw [this, Bool.and_true]
  have h := coded_bits _ hc j hj
  rw [BitVec.ofNat_toNat, BitVec.setWidth_eq] at h
  rw [h, hbit 0 (by omega), hbit 1 (by omega), hbit 2 (by omega), hbit 3 (by omega), hbit 4 (by omega), hbit 5 (by omega), hbit 6 (by omega)]
  unfold codeBit
  rw [show (8 * f + j) % 8 = j by omega, show (8 * f + j) / 8 = f by omega]
  by_cases hj7 : j < 7
  · rw [if_pos hj7, if_pos hj7, hbit j hj7]
  · rw [if_neg hj7, if_neg hj7, Nat.add_zero]

end Cert.Proof.SignBits

end
-- ==== Proof.Weights.lean ====
/- The product the kernel and the reference both compute, written over the argument arrays: every weight decoded from its
   packed words, every result element the sum over the 7168 inputs. -/
module

public import proofs.«01_k».proof.Proof.SignBits
public import Idealize.ShloMosaic.PureOps.Ideal

@[expose] public section

noncomputable section

namespace Cert.Proof.Weights

open Cert.Proof.SignBits
open Idealize.ShloMosaic

/-- The scale of a block of 32 rows, from its sign-and-scale word and its superblock's `d`. -/
def blockScale (b : BitVec 32) (d : EReal) : EReal :=
  d * (Ideal.ofBits .f32 1056964608#32 + (((b >>> 28).toNat : ℝ) : EReal)) * Ideal.ofBits .f32 1048576000#32

/-- The sign applied to a magnitude. -/
def signed (n : Bool) (v : EReal) : EReal := if n then 0 - v else v

/-- A weight: its grid byte times its block's scale, negated where its sign bit is set. -/
def weight (byte : BitVec 8) (n : Bool) (b : BitVec 32) (d : EReal) : EReal := signed n (((byte.toNat : ℝ) : EReal) * blockScale b d)

/-- The byte of the grid that row `r` of a block of 32 rows takes, under the index word `a`: the row's byte of the grid entry
    that byte `r / 8` of the word names. -/
def gridEntry (gr : Fin 256 → Fin 8 → BitVec 8) (a : BitVec 32) (r : ℕ) : BitVec 8 :=
  gr ⟨(a >>> (8 * (r / 8))).toNat % 256, Nat.mod_lt _ (by decide)⟩ ⟨r % 8, Nat.mod_lt _ (by decide)⟩

/-- The weight of input `R` in column `n`, from the index words `qa`, the sign-and-scale words `qb`, the superblock scales `d` and
    the grid `gr`. -/
def weightAt (qa qb : Fin 224 → Fin 18432 → BitVec 32) (d : Fin 28 → Fin 18432 → EReal) (gr : Fin 256 → Fin 8 → BitVec 8)
    (R : Fin 7168) (n : Fin 18432) : EReal :=
  weight (gridEntry gr (qa ⟨R.val / 32, by omega⟩ n) (R.val % 32)) (codeBit (qb ⟨R.val / 32, by omega⟩ n) (R.val % 32))
    (qb ⟨R.val / 32, by omega⟩ n) (d ⟨R.val / 256, by omega⟩ n)

/-- The result at row `r` and column `n`: the inputs of the row times the weights of the column, summed. -/
def product (x : Fin 1280 → Fin 7168 → EReal) (qa qb : Fin 224 → Fin 18432 → BitVec 32) (d : Fin 28 → Fin 18432 → EReal)
    (gr : Fin 256 → Fin 8 → BitVec 8) (r : Fin 1280) (n : Fin 18432) : EReal :=
  ∑ k : Fin 7168, x r k * weightAt qa qb d gr k n

end Cert.Proof.Weights

end
-- ==== Proof.DecodeValue.lean ====
/- What a decoded weight tile holds at an index, over the extended reals. -/
module

public import proofs.«01_k».proof.Proof.DecodePieces
public import proofs.«01_k».proof.Proof.Weights
public import Idealize.ShloMosaic.Lib.ValueIdx
public import Idealize.ShloMosaic.Lib.ValueLayout
public import Idealize.ShloMosaic.Lib.ValueIdxCoords
public import Idealize.ShloMosaic.Lib.Pointwise
public import Idealize.ShloMosaic.Lib.BitcastFour
public import Idealize.ShloMosaic.Lib.Pipeline.Value
public import Idealize.ShloMosaic.Lib.Pipeline.ValueKit.Geometry
public import Idealize.ShloMosaic.Lib.Pipeline.ValueKit.Tiles

@[expose] public section

noncomputable section

namespace Cert.Proof.KernelIdeal

open Cert.KernelIdeal Cert.KernelIdeal.Gen Cert.Proof.SignBits Cert.Proof.Weights
open Idealize.ShloMosaic
open Idealize.ShloMosaic.ValueIdx (select_one select_zero)

/-- A word read at eight bits: row `R` of a lane is byte `R % 4` of the word at row `R / 4`. -/
theorem bitcast_32_8_getLsbD (x : S8x128.Idx → BitVec 32) (h : S8x128.Bitcasts 32 S32x128 8) (R : Fin 32) (l : Fin 128) (i : ℕ) (hi : i < 8) :
    (bitcast S32x128 8 x h (ix2 R l)).getLsbD i = (x (ix2 ⟨R.val / 4, by omega⟩ l)).getLsbD (8 * (R.val % 4) + i) := by
  have hr : S32x128.row (ix2 R l) = R.val := rfl
  rw [bitcast_getLsbD x h _ i hi (by decide)]
  have e2 : (S32x128.row (ix2 R l) * 8 + i) % 32 = 8 * (R.val % 4) + i := by rw [hr]; omega
  rw [e2]
  congr 2
  funext c
  match c with
  | ⟨0, _⟩ => exact Fin.ext ((h.srcIdx_row _ _ _ ⟨0, Nat.zero_lt_two⟩ rfl).trans (by rw [hr]; show _ = R.val / 4; omega))
  | ⟨1, _⟩ => exact Fin.ext (h.srcIdx_other _ _ _ ⟨1, Nat.one_lt_two⟩ (by show ¬ 1 + 2 = 2; omega))

/-- The byte of the grid that row `r` of a block of 32 rows takes, under the index word `a`. -/
def gridByte (g : S8x256.Idx → BitVec 8) (a : BitVec 32) (r : ℕ) : BitVec 8 :=
  g (ix2 ⟨r % 8, Nat.mod_lt _ (by decide)⟩ ⟨(a >>> (8 * (r / 8))).toNat % 256, Nat.mod_lt _ (by decide)⟩)

/-- A table word holds the lower four or the upper four bytes of one grid entry. -/
theorem table_bit (g : Vec Ideal S8x256 .i8) (q : Fin 8) (c : Fin 256) (j i : ℕ) (hj : j < 4) (hi : i < 8) :
    (k0_pay107 (F := Ideal) g (ix2 q c)).getLsbD (8 * j + i) = (g (ix2 ⟨4 * (q.val % 2) + j, by omega⟩ c)).getLsbD i := by
  unfold k0_pay107
  pointwise
  have e1 : (8 * j + i) / 8 = j := by omega
  have e2 : (8 * j + i) % 8 = i := by omega
  have hq : IntOp.cmpi CmpIPredicate.eq (IntOp.andi (BitVec.ofNat 32 q.val) 1#32) 0#32 = if q.val % 2 = 0 then 1#1 else 0#1 := by
    revert q; decide +kernel
  rw [hq]
  split
  case isTrue h =>
    have := four_bytes_getLsbD (fun t => g (ix2 ⟨t.val, by omega⟩ c)) (8 * j + i) (by omega)
    simp only [e1, e2] at this
    have hx : (⟨4 * (q.val % 2) + j, by omega⟩ : Fin 8) = ⟨j, by omega⟩ := Fin.ext (by show 4 * (q.val % 2) + j = j; omega)
    rw [hx, ← this]
    rfl
  case isFalse h =>
    have hx : (⟨4 * (q.val % 2) + j, by omega⟩ : Fin 8) = ⟨4 + j, by omega⟩ := Fin.ext (by show 4 * (q.val % 2) + j = 4 + j; omega)
    have := four_bytes_getLsbD (fun t => g (ix2 ⟨4 + t.val, by omega⟩ c)) (8 * j + i) (by omega)
    simp only [e1, e2] at this
    rw [hx, ← this]
    rfl

theorem signRows_apply (b : Vec Ideal S8x1x128 .i32) (j : Fin 8) (l : Fin 128) :
    signRows (F := Ideal) b (ix2 j l) = signWord (b (ix3 j 0 l)) := by
  unfold signRows k0_pay86 k0_pay85 k0_pay84 k0_pay83
  pointwise
  rfl

theorem toInt_shift (b : BitVec 32) : (b >>> 28).toInt = ((b >>> 28).toNat : ℤ) := by
  have : (b >>> 28).toNat < 16 := by
    have := b.isLt
    simp [BitVec.toNat_ushiftRight, Nat.shiftRight_eq_div_pow]; omega
  rw [BitVec.toInt_eq_toNat_cond, if_pos (by omega)]

theorem dbRows_apply (b : Vec Ideal S8x1x128 .i32) (d : Vec Ideal S1x128 .f16) (j : Fin 8) (l : Fin 128) :
    dbRows (F := Ideal) b d (ix2 j l) = blockScale (b (ix3 j 0 l)) (d (ix2 0 l)) := by
  unfold dbRows k0_pay1 k0_pay87 k0_pay88 k0_pay89 k0_pay83
  pointwise
  show _ * (_ + ((((b (ix3 j 0 l)) >>> 28).toInt : ℝ) : EReal)) * _ = _
  rw [toInt_shift]
  rfl

theorem select_bit (n : Bool) (m : BitVec 32) (hm : m ≠ 0#32) (v : EReal) :
    Scalar.select (IntOp.cmpi CmpIPredicate.ne (if n then m else 0#32) 0#32) (0 - v) v = signed n v := by
  cases n
  · rfl
  · have : (m != 0#32) = true := by simpa using hm
    simp [IntOp.cmpi, Scalar.select, signed, this]

theorem shli_ofNat (x : BitVec 32) (c : BitVec 32) (q n : ℕ) (h : q < 32 ∧ IntOp.subi c (BitVec.ofNat 32 q) = BitVec.ofNat 32 n ∧ n < 32) :
    IntOp.shli ArithUnit.vector x (IntOp.subi c (BitVec.ofNat 32 q)) = x <<< n := by
  rw [h.2.1]
  unfold IntOp.shli
  have : (BitVec.ofNat 32 n).toNat = n := by simp; omega
  rw [if_pos (by omega)]
  rw [BitVec.shiftLeft_eq', this]

theorem wLo_apply (tl th : IVec S8x128 32)  (a : Vec Ideal S1x1x128 .i32) (sg : Vec Ideal S1x128 .i32) (db : Vec Ideal S1x128 .f32) (R : Fin 16) (l : Fin 128) :
    wLo (F := Ideal) tl th a sg db (ix2 R l) = signed ((sg (ix2 0 l)).getLsbD (place R.val))
      (k0_pay75 (F := Ideal) tl th k0_pay127 a (ix2 ⟨R.val, by omega⟩ l) * db (ix2 0 l)) := by
  unfold wLo k0_pay78 k0_pay128 k0_pay73 k0_pay74 k0_pay77 k0_pay76
  pointwise
  have hs := shli_ofNat (sg (ix2 0 l)) 15#32 (R.val / 2) (15 - R.val / 2) ⟨by omega, by revert R; decide +kernel, by omega⟩
  rw [hs]
  unfold IntOp.andi
  split
  case isTrue h =>
    rw [low_bit _ _ (R.val / 2) (by omega), select_bit _ _ (by decide)]
    have : 2 * (R.val / 2) = R.val := by omega
    simp only [place, h, if_true, this]
  case isFalse h =>
    rw [high_bit _ _ (16 + R.val / 2) (by omega), select_bit _ _ (by decide)]
    have : 2 * (R.val / 2) + 1 = R.val := by omega
    simp only [place, h, if_false, this]

theorem wHi_apply (tl th : IVec S8x128 32)  (a : Vec Ideal S1x1x128 .i32) (sg : Vec Ideal S1x128 .i32) (db : Vec Ideal S1x128 .f32) (R : Fin 16) (l : Fin 128) :
    wHi (F := Ideal) tl th a sg db (ix2 R l) = signed ((sg (ix2 0 l)).getLsbD (place (16 + R.val)))
      (k0_pay75 (F := Ideal) tl th k0_pay127 a (ix2 ⟨16 + R.val, by omega⟩ l) * db (ix2 0 l)) := by
  unfold wHi k0_pay2 k0_pay80 k0_pay81 k0_pay82 k0_pay129 k0_pay73 k0_pay74 k0_pay79
  pointwise
  have hs := shli_ofNat (sg (ix2 0 l)) 7#32 (R.val / 2) (7 - R.val / 2) ⟨by omega, by revert R; decide +kernel, by omega⟩
  rw [hs]
  unfold IntOp.andi
  have hp : (16 + R.val) % 2 = R.val % 2 := by omega
  have hd : (16 + R.val) / 2 = 8 + R.val / 2 := by omega
  split
  case isTrue h =>
    rw [low_bit _ _ (8 + R.val / 2) (by omega), select_bit _ _ (by decide)]
    have : 2 * (R.val / 2) = R.val := by omega
    simp only [place, hp, hd, h, if_true, this]
  case isFalse h =>
    rw [high_bit _ _ (16 + (8 + R.val / 2)) (by omega), select_bit _ _ (by decide)]
    have : 2 * (R.val / 2) + 1 = R.val := by omega
    simp only [place, hp, hd, h, if_false, this]

/-- A masked lane number is never negative, so the wrap of a negative lane number never happens. -/
theorem no_wrap (v : BitVec 32) :
    Scalar.select (IntOp.cmpi CmpIPredicate.slt (IntOp.andi v 127#32) 0#32) (IntOp.addi (IntOp.andi v 127#32) 128#32) (IntOp.andi v 127#32)
      = v &&& 127#32 := by
  have h : (v &&& 127#32).toNat < 128 := by
    rw [BitVec.toNat_and]; exact lt_of_le_of_lt Nat.and_le_right (by decide)
  have hs : (v &&& 127#32).slt 0#32 = false := by
    rw [BitVec.slt_eq_decide, BitVec.toInt_eq_toNat_cond, if_pos (by omega)]
    simp
  simp only [IntOp.cmpi, IntOp.andi, hs]
  rfl

/-- Bit 7 of a word tells the upper half of its low byte's range from the lower half. -/
theorem bit7 (v : BitVec 32) : IntOp.cmpi CmpIPredicate.ne (IntOp.andi v 128#32) 0#32 = if 128 ≤ v.toNat % 256 then 1#1 else 0#1 := by
  have hand : v &&& 128#32 = if v.getLsbD 7 then BitVec.twoPow 32 7 else 0#32 := BitVec.and_twoPow v 7
  have hb : v.getLsbD 7 = decide (128 ≤ v.toNat % 256) := by
    rw [BitVec.getLsbD, Nat.testBit_eq_decide_div_mod_eq]
    exact decide_eq_decide.mpr (by omega)
  simp only [IntOp.cmpi, IntOp.andi]
  rw [hand, hb]
  by_cases h : 128 ≤ v.toNat % 256
  · rw [if_pos h, decide_eq_true h]; rfl
  · rw [if_neg h, decide_eq_false h]; rfl

/-- The two table halves read at one byte of the index word are one table of 256 entries. -/
theorem pick_bit (g : Vec Ideal S8x256 .i8) (R : Fin 32) (v : BitVec 32) (i : ℕ) (hi : i < 8) :
    (Scalar.select (if 128 ≤ v.toNat % 256 then 1#1 else 0#1)
      (k0_pay107 (F := Ideal) g (ix2 ⟨R.val / 4, by omega⟩ ⟨128 + (v &&& 127#32).toNat % 128, by omega⟩))
      (k0_pay107 (F := Ideal) g (ix2 ⟨R.val / 4, by omega⟩ ⟨(v &&& 127#32).toNat % 128, by omega⟩))).getLsbD (8 * (R.val % 4) + i)
      = BitVec.getLsbD (g (ix2 ⟨R.val % 8, by omega⟩ ⟨v.toNat % 256, by omega⟩)) i := by
  have hm : (v &&& 127#32).toNat % 128 = v.toNat % 128 := by
    rw [BitVec.toNat_and]
    show (v.toNat &&& (2 ^ 7 - 1)) % 128 = _
    rw [Nat.and_two_pow_sub_one_eq_mod]; omega
  have hx : (⟨4 * (R.val / 4 % 2) + R.val % 4, by omega⟩ : Fin 8) = ⟨R.val % 8, by omega⟩ := Fin.ext (by show 4 * (R.val / 4 % 2) + R.val % 4 = R.val % 8; omega)
  split
  case isTrue h =>
    rw [select_one, table_bit g _ _ _ _ (by omega) hi]
    have hc : (⟨128 + (v &&& 127#32).toNat % 128, by omega⟩ : Fin 256) = ⟨v.toNat % 256, by omega⟩ := Fin.ext (by show 128 + (v &&& 127#32).toNat % 128 = v.toNat % 256; omega)
    rw [hx, hc]
  case isFalse h =>
    rw [select_zero, table_bit g _ _ _ _ (by omega) hi]
    have hc : (⟨(v &&& 127#32).toNat % 128, by omega⟩ : Fin 256) = ⟨v.toNat % 256, by omega⟩ := Fin.ext (by show (v &&& 127#32).toNat % 128 = v.toNat % 256; omega)
    rw [hx, hc]

theorem word_apply (g : Vec Ideal S8x256 .i8) (a : Vec Ideal S1x1x128 .i32) (R : Fin 32) (l : Fin 128) :
    k0_pay75 (F := Ideal) (k0_pay108 (F := Ideal) g) (k0_pay109 (F := Ideal) g) k0_pay127 a (ix2 R l) = (((gridByte g (a (ix3 0 0 l)) R.val).toNat : ℝ) : EReal) := by
  unfold k0_pay75
  show (((bitcast S32x128 8 _ bitcasts_S8x128_w32_S32x128_w8 (ix2 R l)).toNat : ℝ) : EReal) = _
  congr 3
  apply BitVec.eq_of_getLsbD_eq
  intro i hi
  rw [bitcast_32_8_getLsbD _ _ _ _ _ hi]
  unfold k0_pay127 k0_pay108 k0_pay109
  pointwise
  have hk : ∀ R : Fin 32, IntOp.shli ArithUnit.vector (IntOp.shrui ArithUnit.vector (BitVec.ofNat 32 (R.val / 4)) 1#32) 3#32
      = BitVec.ofNat 32 (8 * (R.val / 8)) := by decide +kernel
  have hs : IntOp.shrui ArithUnit.vector (a (ix3 0 0 l)) (BitVec.ofNat 32 (8 * (R.val / 8))) = a (ix3 0 0 l) >>> (8 * (R.val / 8)) := by
    have : (BitVec.ofNat 32 (8 * (R.val / 8))).toNat = 8 * (R.val / 8) := by simp; omega
    unfold IntOp.shrui
    rw [if_pos (by omega), BitVec.ushiftRight_eq', this]
  simp only [hk, hs, no_wrap, bit7]
  exact pick_bit g R _ i hi

/-- The weight at index `y` of the tile whose packed words are `q` and whose scales are `d`. -/
def tileVal (g : S8x256.Idx → BitVec 8) (q : S224x2x256.Idx → BitVec 32) (d : S28x256.Idx → EReal) (y : S7168x256.Idx) : EReal :=
  have hy : (y 0).val < 7168 := (y 0).isLt
  weight (gridByte g (q (ix3 ⟨(y 0).val / 32, by omega⟩ 0 (y 1))) ((y 0).val % 32))
    (codeBit (q (ix3 ⟨(y 0).val / 32, by omega⟩ 1 (y 1))) ((y 0).val % 32))
    (q (ix3 ⟨(y 0).val / 32, by omega⟩ 1 (y 1))) (d (ix2 ⟨(y 0).val / 256, by omega⟩ (y 1)))

/-- The first half of a block of 32 rows: each element stored is the tile's weight there. -/
theorem wLo_val (g : Vec Ideal S8x256 .i8) (q : Vec Ideal S224x2x256 .i32) (d : Vec Ideal S28x256 .f16)
    (a : Vec Ideal S1x1x128 .i32) (sg : Vec Ideal S1x128 .i32) (db : Vec Ideal S1x128 .f32) (S : Fin 224) (c : Fin 256)
    (R : Fin 16) (l : Fin 128) (y : S7168x256.Idx) (hy : (y 0).val = 32 * S.val + R.val) (hc : y 1 = c)
    (ha : a (ix3 0 0 l) = q (ix3 S 0 c)) (hs : sg (ix2 0 l) = signWord (q (ix3 S 1 c)))
    (hd : db (ix2 0 l) = blockScale (q (ix3 S 1 c)) (d (ix2 ⟨S.val / 8, by omega⟩ c))) :
    wLo (F := Ideal) (k0_pay108 (F := Ideal) g) (k0_pay109 (F := Ideal) g) a sg db (ix2 R l) = tileVal g q d y := by
  rw [wLo_apply, word_apply, ha, hs, hd, signWord_bit _ _ (by omega)]
  have e1 : (y 0).val / 32 = S.val := by omega
  have e2 : (y 0).val % 32 = R.val := by omega
  have e3 : (y 0).val / 256 = S.val / 8 := by omega
  simp only [tileVal, weight, e1, e2, e3, hc]

/-- The second half of a block of 32 rows: each element stored is the tile's weight there. -/
theorem wHi_val (g : Vec Ideal S8x256 .i8) (q : Vec Ideal S224x2x256 .i32) (d : Vec Ideal S28x256 .f16)
    (a : Vec Ideal S1x1x128 .i32) (sg : Vec Ideal S1x128 .i32) (db : Vec Ideal S1x128 .f32) (S : Fin 224) (c : Fin 256)
    (R : Fin 16) (l : Fin 128) (y : S7168x256.Idx) (hy : (y 0).val = 32 * S.val + 16 + R.val) (hc : y 1 = c)
    (ha : a (ix3 0 0 l) = q (ix3 S 0 c)) (hs : sg (ix2 0 l) = signWord (q (ix3 S 1 c)))
    (hd : db (ix2 0 l) = blockScale (q (ix3 S 1 c)) (d (ix2 ⟨S.val / 8, by omega⟩ c))) :
    wHi (F := Ideal) (k0_pay108 (F := Ideal) g) (k0_pay109 (F := Ideal) g) a sg db (ix2 R l) = tileVal g q d y := by
  rw [wHi_apply, word_apply, ha, hs, hd, signWord_bit _ _ (by omega)]
  have e1 : (y 0).val / 32 = S.val := by omega
  have e2 : (y 0).val % 32 = 16 + R.val := by omega
  have e3 : (y 0).val / 256 = S.val / 8 := by omega
  simp only [tileVal, weight, e1, e2, e3, hc]

/-- An index of 16 rows by 128 lanes by its coordinates. -/
theorem idx16 (x : S16x128.Idx) : x = ix2 (n0 := 16) (n1 := 128) (x 0) (x 1) := eq_ix2 x

/-- Every element stored in the first 128 lanes is the tile's weight there. -/
theorem pieces0_val (g : Vec Ideal S8x256 .i8) (q : Vec Ideal S224x2x256 .i32) (d : Vec Ideal S28x256 .f16)
    (p : View.Piece (Elt Ideal) S7168x256 .bf16)
    (hp : p ∈ outer0 (F := Ideal) (k0_pay108 (F := Ideal) g) (k0_pay109 (F := Ideal) g) q d k0_t9_loop.trips) (x : p.1.shape.Idx) :
    p.2 x = tileVal g q d (p.1.emb x) := by
  obtain ⟨k, j, hp⟩ := (mem_all0 ..).mp hp
  have hk : k.val < 28 := superTrips0 ▸ k.isLt
  have hj : j.val < 8 := trips0 ▸ j.isLt
  obtain ⟨l0, l1⟩ := k0_off30_lo k j
  obtain ⟨h0, h1⟩ := k0_off30_hi k j
  obtain ⟨o0, o1, o2⟩ := k0_off25_eq k
  obtain ⟨s0, s1⟩ := k0_off27_eq k
  obtain ⟨a0, a1, a2⟩ := k0_off28_eq k j
  have ha : ∀ l : Fin 128, word0 (F := Ideal) q k j (ix3 0 0 l) = q (ix3 ⟨8 * k.val + j.val, by omega⟩ 0 ⟨l.val, by omega⟩) := fun l => by
    refine View.ld_unit_apply_of q _ _ _ _ _ fun a => ?_
    match a with
    | ⟨0, _⟩ => show 8 * k.val + j.val = k0_off28 k j 0 + 0; omega
    | ⟨1, _⟩ => show 0 = k0_off28 k j 1 + 0; omega
    | ⟨2, _⟩ => show l.val = k0_off28 k j 2 + l.val; omega
  have hb : ∀ l : Fin 128, words0 (F := Ideal) q k (ix3 ⟨j.val, hj⟩ 0 l) = q (ix3 ⟨8 * k.val + j.val, by omega⟩ 1 ⟨l.val, by omega⟩) := fun l => by
    refine View.ld_unit_apply_of q _ _ _ _ _ fun a => ?_
    match a with
    | ⟨0, _⟩ => show 8 * k.val + j.val = k0_off25 k 0 + j.val; omega
    | ⟨1, _⟩ => show 1 = k0_off25 k 1 + 0; omega
    | ⟨2, _⟩ => show l.val = k0_off25 k 2 + l.val; omega
  have hd : ∀ l : Fin 128, scale0 (F := Ideal) d k (ix2 0 l) = d (ix2 ⟨(8 * k.val + j.val) / 8, by omega⟩ ⟨l.val, by omega⟩) := fun l => by
    refine View.ld_unit_apply_of d _ _ _ _ _ fun a => ?_
    match a with
    | ⟨0, _⟩ => show (8 * k.val + j.val) / 8 = k0_off27 k 0 + 0; omega
    | ⟨1, _⟩ => show l.val = k0_off27 k 1 + l.val; omega
  have hs : ∀ l : Fin 128, sgRow0 (F := Ideal) q k j (ix2 0 l) = signWord (q (ix3 ⟨8 * k.val + j.val, by omega⟩ 1 ⟨l.val, by omega⟩)) :=
    fun l => (signRows_apply (words0 (F := Ideal) q k) ⟨j.val, hj⟩ l).trans (by rw [hb])
  have he : ∀ l : Fin 128, dbRow0 (F := Ideal) q d k j (ix2 0 l)
      = blockScale (q (ix3 ⟨8 * k.val + j.val, by omega⟩ 1 ⟨l.val, by omega⟩)) (d (ix2 ⟨(8 * k.val + j.val) / 8, by omega⟩ ⟨l.val, by omega⟩)) :=
    fun l => (dbRows_apply (words0 (F := Ideal) q k) (scale0 (F := Ideal) d k) ⟨j.val, hj⟩ l).trans (by rw [hb, hd])
  rcases List.mem_cons.mp hp with rfl | hp
  · have hx : (x : S16x128.Idx) = ix2 (n0 := 16) (n1 := 128) (x 0) (x 1) := eq_ix2 (n0 := 16) (n1 := 128) x
    have e0 := ValueKit.rect_emb_unit_val (s := S7168x256) (k0_off30 k j 16#32) S16x128.size (k0_off30_inb k j 1) x 0
    have e1 := ValueKit.rect_emb_unit_val (s := S7168x256) (k0_off30 k j 16#32) S16x128.size (k0_off30_inb k j 1) x 1
    have hl : (x 1).val < 128 := (x 1).isLt
    exact (congrArg (wHi (F := Ideal) _ _ _ _ _) hx).trans (wHi_val g q d _ _ _ ⟨8 * k.val + j.val, by omega⟩ ⟨(x 1).val, by omega⟩ (x 0) (x 1) _
      (e0.trans (by rw [h0])) (Fin.ext (e1.trans (by rw [h1, Nat.zero_add]))) (ha (x 1)) (hs (x 1)) (he (x 1)))
  · obtain rfl := List.mem_singleton.mp hp
    have hx : (x : S16x128.Idx) = ix2 (n0 := 16) (n1 := 128) (x 0) (x 1) := eq_ix2 (n0 := 16) (n1 := 128) x
    have e0 := ValueKit.rect_emb_unit_val (s := S7168x256) (k0_off30 k j 0#32) S16x128.size (k0_off30_inb k j 0) x 0
    have e1 := ValueKit.rect_emb_unit_val (s := S7168x256) (k0_off30 k j 0#32) S16x128.size (k0_off30_inb k j 0) x 1
    have hl : (x 1).val < 128 := (x 1).isLt
    exact (congrArg (wLo (F := Ideal) _ _ _ _ _) hx).trans (wLo_val g q d _ _ _ ⟨8 * k.val + j.val, by omega⟩ ⟨(x 1).val, by omega⟩ (x 0) (x 1) _
      (e0.trans (by rw [l0])) (Fin.ext (e1.trans (by rw [l1, Nat.zero_add]))) (ha (x 1)) (hs (x 1)) (he (x 1)))

/-- Every element stored in the last 128 lanes is the tile's weight there. -/
theorem pieces1_val (g : Vec Ideal S8x256 .i8) (q : Vec Ideal S224x2x256 .i32) (d : Vec Ideal S28x256 .f16)
    (p : View.Piece (Elt Ideal) S7168x256 .bf16)
    (hp : p ∈ outer1 (F := Ideal) (k0_pay108 (F := Ideal) g) (k0_pay109 (F := Ideal) g) q d k0_t11_loop.trips) (x : p.1.shape.Idx) :
    p.2 x = tileVal g q d (p.1.emb x) := by
  obtain ⟨k, j, hp⟩ := (mem_all1 ..).mp hp
  have hk : k.val < 28 := superTrips1 ▸ k.isLt
  have hj : j.val < 8 := trips1 ▸ j.isLt
  obtain ⟨l0, l1⟩ := k0_off36_lo k j
  obtain ⟨h0, h1⟩ := k0_off36_hi k j
  obtain ⟨o0, o1, o2⟩ := k0_off31_eq k
  obtain ⟨s0, s1⟩ := k0_off33_eq k
  obtain ⟨a0, a1, a2⟩ := k0_off34_eq k j
  have ha : ∀ l : Fin 128, word1 (F := Ideal) q k j (ix3 0 0 l) = q (ix3 ⟨8 * k.val + j.val, by omega⟩ 0 ⟨128 + l.val, by omega⟩) := fun l => by
    refine View.ld_unit_apply_of q _ _ _ _ _ fun a => ?_
    match a with
    | ⟨0, _⟩ => show 8 * k.val + j.val = k0_off34 k j 0 + 0; omega
    | ⟨1, _⟩ => show 0 = k0_off34 k j 1 + 0; omega
    | ⟨2, _⟩ => show 128 + l.val = k0_off34 k j 2 + l.val; omega
  have hb : ∀ l : Fin 128, words1 (F := Ideal) q k (ix3 ⟨j.val, hj⟩ 0 l) = q (ix3 ⟨8 * k.val + j.val, by omega⟩ 1 ⟨128 + l.val, by omega⟩) := fun l => by
    refine View.ld_unit_apply_of q _ _ _ _ _ fun a => ?_
    match a with
    | ⟨0, _⟩ => show 8 * k.val + j.val = k0_off31 k 0 + j.val; omega
    | ⟨1, _⟩ => show 1 = k0_off31 k 1 + 0; omega
    | ⟨2, _⟩ => show 128 + l.val = k0_off31 k 2 + l.val; omega
  have hd : ∀ l : Fin 128, scale1 (F := Ideal) d k (ix2 0 l) = d (ix2 ⟨(8 * k.val + j.val) / 8, by omega⟩ ⟨128 + l.val, by omega⟩) := fun l => by
    refine View.ld_unit_apply_of d _ _ _ _ _ fun a => ?_
    match a with
    | ⟨0, _⟩ => show (8 * k.val + j.val) / 8 = k0_off33 k 0 + 0; omega
    | ⟨1, _⟩ => show 128 + l.val = k0_off33 k 1 + l.val; omega
  have hs : ∀ l : Fin 128, sgRow1 (F := Ideal) q k j (ix2 0 l) = signWord (q (ix3 ⟨8 * k.val + j.val, by omega⟩ 1 ⟨128 + l.val, by omega⟩)) :=
    fun l => (signRows_apply (words1 (F := Ideal) q k) ⟨j.val, hj⟩ l).trans (by rw [hb])
  have he : ∀ l : Fin 128, dbRow1 (F := Ideal) q d k j (ix2 0 l)
      = blockScale (q (ix3 ⟨8 * k.val + j.val, by omega⟩ 1 ⟨128 + l.val, by omega⟩)) (d (ix2 ⟨(8 * k.val + j.val) / 8, by omega⟩ ⟨128 + l.val, by omega⟩)) :=
    fun l => (dbRows_apply (words1 (F := Ideal) q k) (scale1 (F := Ideal) d k) ⟨j.val, hj⟩ l).trans (by rw [hb, hd])
  rcases List.mem_cons.mp hp with rfl | hp
  · have hx : (x : S16x128.Idx) = ix2 (n0 := 16) (n1 := 128) (x 0) (x 1) := eq_ix2 (n0 := 16) (n1 := 128) x
    have e0 := ValueKit.rect_emb_unit_val (s := S7168x256) (k0_off36 k j 16#32) S16x128.size (k0_off36_inb k j 1) x 0
    have e1 := ValueKit.rect_emb_unit_val (s := S7168x256) (k0_off36 k j 16#32) S16x128.size (k0_off36_inb k j 1) x 1
    have hl : (x 1).val < 128 := (x 1).isLt
    exact (congrArg (wHi (F := Ideal) _ _ _ _ _) hx).trans (wHi_val g q d _ _ _ ⟨8 * k.val + j.val, by omega⟩ ⟨128 + (x 1).val, by omega⟩ (x 0) (x 1) _
      (e0.trans (by rw [h0])) (Fin.ext (e1.trans (by rw [h1]))) (ha (x 1)) (hs (x 1)) (he (x 1)))
  · obtain rfl := List.mem_singleton.mp hp
    have hx : (x : S16x128.Idx) = ix2 (n0 := 16) (n1 := 128) (x 0) (x 1) := eq_ix2 (n0 := 16) (n1 := 128) x
    have e0 := ValueKit.rect_emb_unit_val (s := S7168x256) (k0_off36 k j 0#32) S16x128.size (k0_off36_inb k j 0) x 0
    have e1 := ValueKit.rect_emb_unit_val (s := S7168x256) (k0_off36 k j 0#32) S16x128.size (k0_off36_inb k j 0) x 1
    have hl : (x 1).val < 128 := (x 1).isLt
    exact (congrArg (wLo (F := Ideal) _ _ _ _ _) hx).trans (wLo_val g q d _ _ _ ⟨8 * k.val + j.val, by omega⟩ ⟨128 + (x 1).val, by omega⟩ (x 0) (x 1) _
      (e0.trans (by rw [l0])) (Fin.ext (e1.trans (by rw [l1]))) (ha (x 1)) (hs (x 1)) (he (x 1)))

/-- A decoded tile holds at each index the weight there. -/
theorem decTile_val (g : Vec Ideal S8x256 .i8) (q : Vec Ideal S224x2x256 .i32) (d : Vec Ideal S28x256 .f16) (y : S7168x256.Idx) :
    decTile (F := Ideal) g q d y = tileVal g q d y := by
  have G : ∀ y, View.canon (Val := Elt Ideal) (decPieces (F := Ideal) (k0_pay108 (F := Ideal) g) (k0_pay109 (F := Ideal) g) q d) y
      = (fun y => tileVal g q d y : S7168x256.Idx → Elt Ideal .bf16) y := fun y => by
    refine View.canon_apply_of_pieces _ _ (fun p hp x => ?_) y (decPieces_cover ..)
    rcases List.mem_append.mp hp with h | h
    · exact pieces1_val g q d p h x
    · exact pieces0_val g q d p h x
  exact G y

end Cert.Proof.KernelIdeal
end
-- ==== Proof.KernelValue.lean ====
/- What the kernel's result array holds at an index, over the extended reals: the product of Weights.lean. -/
module

public import proofs.«01_k».proof.Proof.DecodeValue
public import proofs.«01_k».proof.Proof.IdealRun
public import Idealize.ShloMosaic.Lib.Pipeline.ValueKit
public import Idealize.ShloMosaic.Lib.MatmulPlain

@[expose] public section

noncomputable section

namespace Cert.Proof.KernelIdeal

open Cert.KernelIdeal Cert.KernelIdeal.Gen Cert.Proof.SignBits Cert.Proof.Weights
open Idealize.ShloMosaic Idealize.ShloMosaic.TcCoe
open Idealize.ShloMosaic.Pipeline (Dat)

variable (m : (ℓ : Loc nD τ sig) → Buf (Elt Ideal) ℓ)

/-! ## The arguments -/

/-- Input `k` of row `r` of the activations, the batch and sequence axes taken as one. -/
def argX (c : Dev nD) (r : Fin 1280) (k : Fin 7168) : EReal :=
  (m ((c : Thread nD τ).loc main_arg0) : S2x640x7168.Idx → EReal) (ix3 ⟨r.val / 640, by omega⟩ ⟨r.val % 640, by omega⟩ k)
/-- The index word of block `s` of column `n`. -/
def argA (c : Dev nD) (s : Fin 224) (n : Fin 18432) : BitVec 32 := (m ((c : Thread nD τ).loc main_arg1) : S224x18432x2.Idx → BitVec 32) (ix3 s n 0)
/-- The sign-and-scale word of block `s` of column `n`. -/
def argB (c : Dev nD) (s : Fin 224) (n : Fin 18432) : BitVec 32 := (m ((c : Thread nD τ).loc main_arg1) : S224x18432x2.Idx → BitVec 32) (ix3 s n 1)
/-- The superblock scale. -/
def argD (c : Dev nD) (s : Fin 28) (n : Fin 18432) : EReal := (m ((c : Thread nD τ).loc main_arg2) : S28x18432.Idx → EReal) (ix2 s n)
/-- Byte `j` of grid entry `e`. -/
def argG (c : Dev nD) (e : Fin 256) (j : Fin 8) : BitVec 8 := (m ((c : Thread nD τ).loc main_arg3) : S256x8.Idx → BitVec 8) (ix2 e j)

/-! ## The blocks the windows stage -/

/-- Where each window's block lies at a grid point, window by window. -/
theorem idx0 : ∀ t : Fin cfg0.N, win0_0.index t 0 = 0 ∧ win0_0.index t 1 = 0 := by decide +kernel
theorem idx1 : ∀ t : Fin cfg0.N, win0_1.index t 0 = 0 ∧ win0_1.index t 1 = 0 ∧ win0_1.index t 2 = 0 := by decide +kernel
theorem idx2 : ∀ t : Fin cfg0.N, win0_2.index t 0 = 0 ∧ win0_2.index t 1 = 0 ∧ win0_2.index t 2 = 2 * t.val + 1 := by decide +kernel
theorem idx3 : ∀ t : Fin cfg0.N, win0_3.index t 0 = 0 ∧ win0_3.index t 1 = 0 ∧ win0_3.index t 2 = min (2 * t.val + 2) 71 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 2 * t.val + 1 := by decide +kernel
theorem idx6 : ∀ t : Fin cfg0.N, win0_6.index t 0 = 0 ∧ win0_6.index t 1 = min (2 * t.val + 2) 71 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = t.val := by decide +kernel
/-- The grid has 36 points. -/
theorem trips_N : cfg0.N = 36 := by decide +kernel

/-- Window 0 stages the activations. -/
theorem x_at (c : Dev nD) (t : Fin cfg0.N) (r : Fin 1280) (k : Fin 7168) :
    (iblk m c 0 t : S1280x7168.Idx → EReal) (ix2 r k) = argX m c r k := by
  unfold argX
  blk_ext! [iblk, V, idx0 t]

/-- Window 1 stages the first 256 columns of the words. -/
theorem q1_at (c : Dev nD) (t : Fin cfg0.N) (s : Fin 224) (w : Fin 2) (l : Fin 256) :
    (iblk m c 1 t : S224x2x256.Idx → BitVec 32) (ix3 s w l)
      = (m ((c : Thread nD τ).loc main_arg1) : S224x18432x2.Idx → BitVec 32) (ix3 s ⟨l.val, by omega⟩ w) := by
  blk_ext! [iblk, V, idx1 t]

/-- Window 2 stages the words of the second tile of the point. -/
theorem q2_at (c : Dev nD) (t : Fin cfg0.N) (s : Fin 224) (w : Fin 2) (l : Fin 256) (n : Fin 18432) (hn : n.val = 256 * (2 * t.val + 1) + l.val) :
    (iblk m c 2 t : S224x2x256.Idx → BitVec 32) (ix3 s w l)
      = (m ((c : Thread nD τ).loc main_arg1) : S224x18432x2.Idx → BitVec 32) (ix3 s n w) := by
  blk_ext! [iblk, V, idx2 t]

/-- Window 7 stages the grid, transposed. -/
theorem g_at (c : Dev nD) (t : Fin cfg0.N) (j : Fin 8) (e : Fin 256) :
    (iblk m c 7 t : S8x256.Idx → BitVec 8) (ix2 j e) = argG m c e j := by
  unfold argG
  blk_ext! [iblk, V, idx7 t]

/-- Window 5 stages the scales of the second tile of the point. -/
theorem d5_at (c : Dev nD) (t : Fin cfg0.N) (s : Fin 28) (l : Fin 256) (n : Fin 18432) (hn : n.val = 256 * (2 * t.val + 1) + l.val) :
    (iblk m c 5 t : S28x256.Idx → EReal) (ix2 s l) = argD m c s n := by
  unfold argD
  blk_ext! [iblk, V, idx5 t]

/-- Window 3 stages the words of the first tile of the next point. -/
theorem q3_at (c : Dev nD) (t : Fin cfg0.N) (s : Fin 224) (w : Fin 2) (l : Fin 256) (n : Fin 18432)
    (hn : n.val = 256 * min (2 * t.val + 2) 71 + l.val) :
    (iblk m c 3 t : S224x2x256.Idx → BitVec 32) (ix3 s w l)
      = (m ((c : Thread nD τ).loc main_arg1) : S224x18432x2.Idx → BitVec 32) (ix3 s n w) := by
  blk_ext! [iblk, V, idx3 t]

/-- Window 4 stages the scales of the first 256 columns. -/
theorem d4_at (c : Dev nD) (t : Fin cfg0.N) (s : Fin 28) (l : Fin 256) :
    (iblk m c 4 t : S28x256.Idx → EReal) (ix2 s l) = argD m c s ⟨l.val, by omega⟩ := by
  unfold argD
  blk_ext! [iblk, V, idx4 t]

/-- Window 6 stages the scales of the first tile of the next point. -/
theorem d6_at (c : Dev nD) (t : Fin cfg0.N) (s : Fin 28) (l : Fin 256) (n : Fin 18432) (hn : n.val = 256 * min (2 * t.val + 2) 71 + l.val) :
    (iblk m c 6 t : S28x256.Idx → EReal) (ix2 s l) = argD m c s n := by
  unfold argD
  blk_ext! [iblk, V, idx6 t]

/-! ## The decoded tiles -/

/-- A tile decoded from blocks that hold the arguments' columns holds those columns' weights. -/
theorem tile_weight (c : Dev nD) (t : Fin cfg0.N) (q : Vec Ideal S224x2x256 .i32) (d : Vec Ideal S28x256 .f16) (R : Fin 7168) (l : Fin 256) (n : Fin 18432)
    (h0 : ∀ s, q (ix3 s 0 l) = argA m c s n) (h1 : ∀ s, q (ix3 s 1 l) = argB m c s n) (h2 : ∀ s, d (ix2 s l) = argD m c s n) :
    decTile (F := Ideal) (iblk m c 7 t) q d (ix2 R l) = weightAt (argA m c) (argB m c) (argD m c) (argG m c) R n := by
  rw [decTile_val]
  show weight _ _ _ _ = weight _ _ _ _
  congr 1
  · show gridByte _ (q (ix3 _ 0 l)) _ = _
    rw [h0]
    exact g_at m c t _ _
  · show codeBit (q (ix3 _ 1 l)) _ = _
    rw [h1]; rfl
  · show q (ix3 _ 1 l) = _
    rw [h1]; rfl
  · show d (ix2 _ l) = _
    rw [h2]; rfl

/-- The second tile of a point holds the weights of its columns. -/
theorem tileB_weight (c : Dev nD) (t : Fin cfg0.N) (R : Fin 7168) (l : Fin 256) (n : Fin 18432) (hn : n.val = 512 * t.val + 256 + l.val) :
    tileB m c t (ix2 R l) = weightAt (argA m c) (argB m c) (argD m c) (argG m c) R n :=
  tile_weight m c t _ _ R l n (fun s => q2_at m c t s 0 l n (by omega)) (fun s => q2_at m c t s 1 l n (by omega)) (fun s => d5_at m c t s l n (by omega))

/-- The first tile of a point, decoded by the point before, holds the weights of its columns. -/
theorem tile0_weight (c : Dev nD) (t : Fin cfg0.N) (R : Fin 7168) (l : Fin 256) (n : Fin 18432) (hn : n.val = 512 * t.val + l.val) :
    tile0 m c t (ix2 R l) = weightAt (argA m c) (argB m c) (argD m c) (argG m c) R n := by
  have hN := trips_N
  have ht := t.isLt
  unfold tile0
  split
  case isTrue h =>
    have he : n = ⟨l.val, by omega⟩ := Fin.ext (by show n.val = l.val; omega)
    rw [he]
    exact tile_weight m c t _ _ R l _ (fun s => q1_at m c t s 0 l) (fun s => q1_at m c t s 1 l) (fun s => d4_at m c t s l)
  case isFalse h =>
    have hp : n.val = 256 * min (2 * (prev t).val + 2) 71 + l.val := by
      show n.val = 256 * min (2 * (t.val - 1) + 2) 71 + l.val
      omega
    exact tile_weight m c (prev t) _ _ R l n (fun s => q3_at m c (prev t) s 0 l n hp) (fun s => q3_at m c (prev t) s 1 l n hp)
      (fun s => d6_at m c (prev t) s l n hp)

/-! ## The output block and the result array -/

/-- The product of the activations and the first tile, at an index. -/
theorem pay118_apply (x : Vec Ideal S1280x7168 .bf16) (w : Vec Ideal S7168x256 .bf16) (r : Fin 1280) (k : Fin 256) :
    k0_pay118 (F := Ideal) x w (ix2 r k) = ∑ j : Fin 7168, x (ix2 r j) * w (ix2 j k) := by
  unfold k0_pay118 k0_pay117
  pointwise

/-- The product of the activations and the second tile, at an index. -/
theorem pay126_apply (x : Vec Ideal S1280x7168 .bf16) (w : Vec Ideal S7168x256 .bf16) (r : Fin 1280) (k : Fin 256) :
    k0_pay126 (F := Ideal) x w (ix2 r k) = ∑ j : Fin 7168, x (ix2 r j) * w (ix2 j k) := by
  unfold k0_pay126 k0_pay117
  pointwise

/-- Two products side by side hold a function of the index whose halves they hold. -/
theorem outTile_val (x : Vec Ideal S1280x7168 .bf16) (w0 w1 : Vec Ideal S7168x256 .bf16) (G : S1280x512.Idx → Elt Ideal .bf16)
    (h0 : ∀ (r : Fin 1280) (l : Fin 256) (y : S1280x512.Idx), y 0 = r → (y 1).val = l.val → k0_pay118 (F := Ideal) x w0 (ix2 r l) = G y)
    (h1 : ∀ (r : Fin 1280) (l : Fin 256) (y : S1280x512.Idx), y 0 = r → (y 1).val = 256 + l.val → k0_pay126 (F := Ideal) x w1 (ix2 r l) = G y)
    (y : S1280x512.Idx) : outTile (F := Ideal) x w0 w1 y = G y := by
  unfold outTile
  refine View.canon_apply_of_pieces G _ (fun p hp x => ?_) y ?_
  · rcases List.mem_cons.mp hp with rfl | hp
    · have e0 := ValueKit.rect_emb_unit_val (s := S1280x512) ![0, 256] S1280x256.size (by decide) x 0
      have e1 := ValueKit.rect_emb_unit_val (s := S1280x512) ![0, 256] S1280x256.size (by decide) x 1
      have hx : (x : S1280x256.Idx) = ix2 (n0 := 1280) (n1 := 256) (x 0) (x 1) := eq_ix2 (n0 := 1280) (n1 := 256) x
      exact (congrArg (k0_pay126 (F := Ideal) _ _) hx).trans (h1 (x 0) (x 1) _ (Fin.ext (e0.trans (Nat.zero_add _))) e1)
    · obtain rfl := List.mem_singleton.mp hp
      have e0 := ValueKit.rect_emb_unit_val (s := S1280x512) ![0, 0] S1280x256.size (by decide) x 0
      have e1 := ValueKit.rect_emb_unit_val (s := S1280x512) ![0, 0] S1280x256.size (by decide) x 1
      have hx : (x : S1280x256.Idx) = ix2 (n0 := 1280) (n1 := 256) (x 0) (x 1) := eq_ix2 (n0 := 1280) (n1 := 256) x
      exact (congrArg (k0_pay118 (F := Ideal) _ _) hx).trans (h0 (x 0) (x 1) _ (Fin.ext (e0.trans (Nat.zero_add _))) (e1.trans (Nat.zero_add _)))
  · have hy0 : (y 0).val < 1280 := (y 0).isLt
    have hy1 : (y 1).val < 512 := (y 1).isLt
    by_cases h : (y 1).val < 256
    · refine ⟨_, List.mem_cons_of_mem _ (List.mem_cons_self ..), (Rect.mem_set_unit (inb := by decide)).mpr fun a => ?_⟩
      match a with
      | ⟨0, _⟩ => exact ⟨Nat.zero_le _, by show (y 0).val < 0 + 1280; omega⟩
      | ⟨1, _⟩ => exact ⟨Nat.zero_le _, by show (y 1).val < 0 + 256; omega⟩
    · refine ⟨_, List.mem_cons_self .., (Rect.mem_set_unit (inb := by decide)).mpr fun a => ?_⟩
      match a with
      | ⟨0, _⟩ => exact ⟨Nat.zero_le _, by show (y 0).val < 0 + 1280; omega⟩
      | ⟨1, _⟩ => exact ⟨by show 256 ≤ (y 1).val; omega, by show (y 1).val < 256 + 256; omega⟩

/-- The product the kernel's result array holds, as contents of the array. -/
def result (c : Dev nD) : S1280x18432.Idx → EReal := fun i => product (argX m c) (argA m c) (argB m c) (argD m c) (argG m c) (i 0) (i 1)

/-- An output block holds the product at the block's columns. -/
theorem outBlk_val (c : Dev nD) (t : Fin cfg0.N) (y : S1280x512.Idx) (i : S1280x18432.Idx) (hr : i 0 = y 0) (hn : (i 1).val = 512 * t.val + (y 1).val) :
    outBlk m c t y = result m c i := by
  have hN := trips_N
  have ht := t.isLt
  have hy : ∀ y : S1280x512.Idx, 512 * t.val + (y 1).val < 18432 := fun y => by have : (y 1).val < 512 := (y 1).isLt; omega
  refine (outTile_val _ _ _ (fun y => product (argX m c) (argA m c) (argB m c) (argD m c) (argG m c) (y 0) ⟨512 * t.val + (y 1).val, hy y⟩)
    (fun r l y h0 h1 => ?_) (fun r l y h0 h1 => ?_) y).trans ?_
  · rw [pay118_apply]
    unfold product
    refine Finset.sum_congr rfl fun k _ => ?_
    rw [x_at, tile0_weight m c t k l ⟨512 * t.val + (y 1).val, hy y⟩ (by show 512 * t.val + (y 1).val = _; omega), h0]
  · rw [pay126_apply]
    unfold product
    refine Finset.sum_congr rfl fun k _ => ?_
    rw [x_at, tileB_weight m c t k l ⟨512 * t.val + (y 1).val, hy y⟩ (by show 512 * t.val + (y 1).val = _; omega), h0]
  · unfold result
    rw [hr]
    congr 1
    exact Fin.ext hn.symm

/-- After the run the kernel's result array is the product. -/
theorem arr_val (c : Dev nD) : (dats m 0 c).arrAt 8 cfg0.N = result m c := by
  refine (dats m 0 c).arrAt_eq_of_covers 8 _ (by decide +kernel) fun t _ y => ?_
  blk_simp
  rw [after0_8]
  obtain ⟨i0, i1⟩ := idx8 t
  refine outBlk_val m c t y _ (Fin.ext ?_) ?_
  · blk_simp
    rw [i0]; omega
  · blk_simp
    rw [i1]; omega

end Cert.Proof.KernelIdeal

end
-- ==== Proof.ReferenceValue.lean ====
/- What the reference's result array holds at an index, over the extended reals: the product of Weights.lean. -/
module

public import proofs.«01_k».proof.Proof.Weights
public import proofs.«01_k».proof.Proof.Gen.ReferenceIdeal.Value
public import Idealize.ShloMosaic.Lib.Pointwise
public import Idealize.ShloMosaic.Lib.Pipeline.ValueKit
public import Idealize.ShloMosaic.Lib.MatmulPlain

@[expose] public section

noncomputable section

namespace Cert.Proof.ReferenceIdeal

open Cert.ReferenceIdeal Cert.ReferenceIdeal.Gen Cert.Proof.SignBits Cert.Proof.Weights
open Idealize.ShloMosaic Idealize.ShloMosaic.TcCoe
open Idealize.ShloMosaic.Pipeline (Dat)

variable (m : (ℓ : Loc nD τ sig) → Buf (Elt Ideal) ℓ)

/-! ## The arguments -/

/-- Input `k` of row `r` of the activations, the batch and sequence axes taken as one. -/
def argX (c : Dev nD) (r : Fin 1280) (k : Fin 7168) : EReal :=
  (m ((c : Thread nD τ).loc main_arg0) : S2x640x7168.Idx → EReal) (ix3 ⟨r.val / 640, by omega⟩ ⟨r.val % 640, by omega⟩ k)
/-- The index word of block `s` of column `n`. -/
def argA (c : Dev nD) (s : Fin 224) (n : Fin 18432) : BitVec 32 := (m ((c : Thread nD τ).loc main_arg1) : S224x18432x2.Idx → BitVec 32) (ix3 s n 0)
/-- The sign-and-scale word of block `s` of column `n`. -/
def argB (c : Dev nD) (s : Fin 224) (n : Fin 18432) : BitVec 32 := (m ((c : Thread nD τ).loc main_arg1) : S224x18432x2.Idx → BitVec 32) (ix3 s n 1)
/-- The superblock scale. -/
def argD (c : Dev nD) (s : Fin 28) (n : Fin 18432) : EReal := (m ((c : Thread nD τ).loc main_arg2) : S28x18432.Idx → EReal) (ix2 s n)
/-- Byte `j` of grid entry `e`. -/
def argG (c : Dev nD) (e : Fin 256) (j : Fin 8) : BitVec 8 := (m ((c : Thread nD τ).loc main_arg3) : S256x8.Idx → BitVec 8) (ix2 e j)

/-! ## The table lookup -/

/-- The host's gather reads row `idx (s, f, n)` of the table (kept inside the table) at column `j`. -/
theorem gather_at (x : S256x8.Idx → BitVec 32) (idx : IVec S224x4x18432x1 32) (s : Fin 224) (f : Fin 4) (n : Fin 18432) (j : Fin 8) (e : Fin 256)
    (he : min (idx (ix4 s f n 0)).toInt.toNat 255 = e.val) :
    Host.gather gather_S256x8_S224x4x18432x1_S224x4x18432x8_3_0_n_n_0_3_18 x idx (ix4 s f n j) = x (ix2 e j) := by
  unfold Host.gather
  congr 1
  funext a
  refine Fin.ext ?_
  show GatherDims.start _ (ix4 s f n j) idx a + GatherDims.batchCoord _ (ix4 s f n j) a + GatherDims.offCoord _ (ix4 s f n j) a = _
  match a with
  | ⟨0, h0⟩ =>
    rw [GatherDims.batchCoord_eq_zero _ _ _ (fun h => by simp [gather_S256x8_S224x4x18432x1_S224x4x18432x8_3_0_n_n_0_3_18] at h),
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S256x8.rank) ∈ gather_S256x8_S224x4x18432x1_S224x4x18432x8_3_0_n_n_0_3_18.startIndexMap from List.mem_singleton.mpr rfl)]
    have hsi : gather_S256x8_S224x4x18432x1_S224x4x18432x8_3_0_n_n_0_3_18.siIdx (ix4 s f n j)
        ⟨List.idxOf (⟨0, h0⟩ : Fin S256x8.rank) gather_S256x8_S224x4x18432x1_S224x4x18432x8_3_0_n_n_0_3_18.startIndexMap, List.idxOf_lt_length_iff.2 (List.mem_singleton.mpr rfl)⟩
        = (ix4 s f n 0) := by
      funext b
      refine Fin.ext ?_
      match b with
      | ⟨0, _⟩ => rfl
      | ⟨1, _⟩ => rfl
      | ⟨2, _⟩ => rfl
      | ⟨3, _⟩ => rfl
    rw [hsi]
    exact he
  | ⟨1, h1⟩ =>
    rw [GatherDims.batchCoord_eq_zero _ _ _ (fun h => by simp [gather_S256x8_S224x4x18432x1_S224x4x18432x8_3_0_n_n_0_3_18] at h)]
    unfold GatherDims.start GatherDims.offCoord
    rw [dif_neg (show ¬ (⟨1, h1⟩ : Fin S256x8.rank) ∈ gather_S256x8_S224x4x18432x1_S224x4x18432x8_3_0_n_n_0_3_18.startIndexMap by decide +revert),
      dif_pos (show (⟨1, h1⟩ : Fin S256x8.rank) ∈ gather_S256x8_S224x4x18432x1_S224x4x18432x8_3_0_n_n_0_3_18.sKept by decide +revert)]
    simp only [Nat.zero_add]
    rfl

/-! ## Words -/

/-- A shift right by a word that is a number below 32. -/
theorem shr_at (w v : BitVec 32) (n : ℕ) (hn : n < 32) (hv : v.toNat = n) : IntOp.shrui .host w v = w >>> n := by
  rw [ValueIdx.shrui_host]
  unfold IntOp.shrui
  rw [if_pos (by omega), BitVec.ushiftRight_eq', hv]

/-- A small product of words is the product of the numbers. -/
theorem toNat_mul (k q : ℕ) (hk : k ≤ 8) (hq : q < 4) : (IntOp.muli (BitVec.ofNat 32 k) (BitVec.ofNat 32 q)).toNat = k * q := by
  unfold IntOp.muli
  rw [BitVec.toNat_mul, BitVec.toNat_ofNat, BitVec.toNat_ofNat]
  have h : k * q ≤ 8 * 4 := Nat.mul_le_mul hk (by omega)
  rw [Nat.mod_eq_of_lt (by omega : k < 2 ^ 32), Nat.mod_eq_of_lt (by omega : q < 2 ^ 32), Nat.mod_eq_of_lt (by omega)]

/-- A shift left by seven. -/
theorem shl_seven (w : BitVec 32) : IntOp.shli .host w 7#32 = w <<< 7 := by
  rw [ValueIdx.shli_host]
  rfl

/-- The low byte of a word, as an index that is kept at most 255. -/
theorem low_byte (w : BitVec 32) : min (IntOp.andi w 255#32).toInt.toNat 255 = w.toNat % 256 := by
  have h : (IntOp.andi w 255#32).toNat = w.toNat % 256 := by
    unfold IntOp.andi
    rw [BitVec.toNat_and]
    exact Nat.and_two_pow_sub_one_eq_mod w.toNat 8
  have h2 : w.toNat % 256 < 256 := Nat.mod_lt _ (by decide)
  rw [BitVec.toInt_eq_toNat_of_lt (by omega), h]
  show min (w.toNat % 256) 255 = _
  omega

/-! ## The blocks the body reads -/

/-- Every window's one block starts at the origin of its array. -/
theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 ∧ win0_4.index t 2 = 0 := by decide +kernel

/-- Window 0 reads the whole of its array. -/
theorem x_blk (c : Dev nD) (t : Fin cfg0.N) (r : Fin 1280) (k : Fin 7168) :
    (iblk m c 0 t : S1280x7168.Idx → EReal) (ix2 r k) = (V m c main_v46 : S1280x7168.Idx → EReal) (ix2 r k) := by
  blk_ext [iblk, idx0 t]

/-- The body reads the activations. -/
theorem x_at (c : Dev nD) (t : Fin cfg0.N) (r : Fin 1280) (k : Fin 7168) :
    (iblk m c 0 t : S1280x7168.Idx → EReal) (ix2 r k) = argX m c r k := by
  rw [x_blk]
  unfold argX
  blk_simp [V]
  entry_read
  pointwise

/-- The body reads the superblock scales. -/
theorem d_at (c : Dev nD) (t : Fin cfg0.N) (s : Fin 28) (n : Fin 18432) :
    (iblk m c 1 t : S28x18432.Idx → EReal) (ix2 s n) = argD m c s n := by
  unfold argD
  blk_ext! [iblk, V, idx1 t]

/-- Window 2 reads the whole of its array. -/
theorem sc_blk (c : Dev nD) (t : Fin cfg0.N) (s : Fin 224) (n : Fin 18432) :
    (iblk m c 2 t : S224x18432.Idx → EReal) (ix2 s n) = (V m c main_v6 : S224x18432.Idx → EReal) (ix2 s n) := by
  blk_ext [iblk, idx2 t]

/-- The body reads the four scale bits of each block, as a number. -/
theorem sc_at (c : Dev nD) (t : Fin cfg0.N) (s : Fin 224) (n : Fin 18432) :
    (iblk m c 2 t : S224x18432.Idx → EReal) (ix2 s n) = (((argB m c s n >>> 28).toNat : ℝ) : EReal) := by
  rw [sc_blk]
  unfold argB
  blk_simp [V]
  entry_read
  pointwise
  rw [shr_at _ _ 28 (by decide) rfl]
  rfl

/-- Window 4 reads the whole of its array. -/
theorem neg_blk (c : Dev nD) (t : Fin cfg0.N) (s : Fin 224) (r : Fin 32) (n : Fin 18432) :
    (iblk m c 4 t : S224x32x18432.Idx → BitVec 32) (ix3 s r n) = (V m c main_v50 : S224x32x18432.Idx → BitVec 32) (ix3 s r n) := by
  blk_ext [iblk, idx4 t]

/-- The body reads one where the weight is negated and zero elsewhere. -/
theorem neg_at (c : Dev nD) (t : Fin cfg0.N) (s : Fin 224) (r : Fin 32) (n : Fin 18432) :
    (iblk m c 4 t : S224x32x18432.Idx → BitVec 32) (ix3 s r n) = if codeBit (argB m c s n) r.val then 1#32 else 0#32 := by
  rw [neg_blk]
  have hr : r.val = 8 * (r.val / 8) + r.val % 8 := by omega
  rw [hr, ← coded_bit _ _ _ (by omega) (by omega)]
  unfold argB coded
  blk_simp [V]
  entry_read
  pointwise
  rw [shr_at _ _ (7 * (r.val / 8)) (by omega) (toNat_mul _ _ (by decide) (by omega)), shl_seven,
    shr_at _ _ (r.val % 8) (by omega) (by rw [BitVec.toNat_ofNat]; omega)]
  rfl

/-- Window 3 reads the whole of its array. -/
theorem g_blk (c : Dev nD) (t : Fin cfg0.N) (s : Fin 224) (r : Fin 32) (n : Fin 18432) :
    (iblk m c 3 t : S224x32x18432.Idx → EReal) (ix3 s r n) = (V m c main_v48 : S224x32x18432.Idx → EReal) (ix3 s r n) := by
  blk_ext [iblk, idx3 t]

/-- The body reads the grid byte of each weight, as a number. -/
theorem g_at (c : Dev nD) (t : Fin cfg0.N) (s : Fin 224) (r : Fin 32) (n : Fin 18432) :
    (iblk m c 3 t : S224x32x18432.Idx → EReal) (ix3 s r n) = (((gridEntry (argG m c) (argA m c s n) r.val).toNat : ℝ) : EReal) := by
  rw [g_blk]
  blk_simp [V]
  entry_read
  pointwise
  rw [gather_at _ _ _ _ _ _ ⟨(argA m c s n >>> (8 * (r.val / 8))).toNat % 256, Nat.mod_lt _ (by decide)⟩ (by
    pointwise
    rw [low_byte, shr_at _ _ (8 * (r.val / 8)) (by omega) (toNat_mul _ _ (by decide) (by omega))]
    rfl)]
  unfold gridEntry argG
  show (((BitVec.setWidth 32 ((m ((c : Thread nD τ).loc main_arg3) : S256x8.Idx → BitVec 8) _)).toNat : ℝ) : EReal) = _
  rw [BitVec.toNat_setWidth, Nat.mod_eq_of_lt (by omega)]

/-! ## The body's product -/

/-- The body's product at an index. -/
theorem pay_apply (d : Vec Ideal S28x18432 .f16) (sc : Vec Ideal S224x18432 .f32) (g : Vec Ideal S224x32x18432 .f32)
    (neg : Vec Ideal S224x32x18432 .i32) (x : Vec Ideal S1280x7168 .bf16) (r : Fin 1280) (n : Fin 18432) :
    k0_pay1 (F := Ideal) d sc g neg x (ix2 r n) = ∑ k : Fin 7168, x (ix2 r k) *
      Scalar.select (IntOp.cmpi CmpIPredicate.eq (neg (ix3 ⟨k.val / 32, by omega⟩ ⟨k.val % 32, by omega⟩ n)) 1#32)
        (0 - d (ix2 ⟨k.val / 32 / 8, by omega⟩ n) * (Ideal.ofBits FTy.f32 1056964608#32 + sc (ix2 ⟨k.val / 32, by omega⟩ n)) *
            Ideal.ofBits FTy.f32 1048576000#32 * g (ix3 ⟨k.val / 32, by omega⟩ ⟨k.val % 32, by omega⟩ n))
        (d (ix2 ⟨k.val / 32 / 8, by omega⟩ n) * (Ideal.ofBits FTy.f32 1056964608#32 + sc (ix2 ⟨k.val / 32, by omega⟩ n)) *
            Ideal.ofBits FTy.f32 1048576000#32 * g (ix3 ⟨k.val / 32, by omega⟩ ⟨k.val % 32, by omega⟩ n)) := by
  unfold k0_pay1
  pointwise

/-- The choice on a sign bit read as a word. -/
theorem select_one_bit (n : Bool) (v w : EReal) (h : v = w) :
    Scalar.select (IntOp.cmpi CmpIPredicate.eq (if n then 1#32 else 0#32) 1#32) (0 - v) v = signed n w := by
  subst h
  cases n <;> rfl

/-- The value the reference computes from its arguments, as an array. -/
def result (c : Dev nD) : S1280x18432.Idx → EReal := fun i => product (argX m c) (argA m c) (argB m c) (argD m c) (argG m c) (i 0) (i 1)

/-- The body's product over the blocks it reads is the product of the arguments. -/
theorem pay_val (c : Dev nD) (t : Fin cfg0.N) (r : Fin 1280) (n : Fin 18432) :
    k0_pay1 (F := Ideal) (iblk m c 1 t) (iblk m c 2 t) (iblk m c 3 t) (iblk m c 4 t) (iblk m c 0 t) (ix2 r n)
      = product (argX m c) (argA m c) (argB m c) (argD m c) (argG m c) r n := by
  rw [pay_apply]
  unfold product
  refine Finset.sum_congr rfl fun k _ => ?_
  rw [x_at, neg_at, d_at, sc_at, g_at]
  congr 1
  unfold weightAt weight
  have hk : k.val / 32 / 8 = k.val / 256 := by omega
  refine select_one_bit _ _ _ ?_
  rw [mul_comm]
  unfold blockScale
  simp only [hk]

theorem idx5 : ∀ t : Fin cfg0.N, win0_5.index t 0 = 0 ∧ win0_5.index t 1 = 0 := by decide +kernel

/-- After the run the reference's result array is the product. -/
theorem arr_val (c : Dev nD) : (dats m 0 c).arrAt 5 cfg0.N = result m c := by
  refine (dats m 0 c).arrAt_eq_of_covers 5 _ (by decide +kernel) fun t _ y => ?_
  blk_simp
  rw [after0_5]
  frame_out
  have he : ((View.whole main_v51).slice (win0_5.rect t)).emb y = (y : S1280x18432.Idx) := by
    blk_ext [idx5 t]
  rw [he, show (y : S1280x18432.Idx) = ix2 (n0 := 1280) (n1 := 18432) (y 0) (y 1) from eq_ix2 (n0 := 1280) (n1 := 18432) y]
  exact pay_val m c t (y 0) (y 1)

end Cert.Proof.ReferenceIdeal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelFrame
public import proofs.«01_k».proof.Proof.IdealRun
public import proofs.«01_k».proof.Proof.KernelValue
public import proofs.«01_k».proof.Proof.ReferenceValue
public import Idealize.ShloMosaic.Lib.Bf16Pair

@[expose] public section

noncomputable section

namespace Cert.Proof

open Idealize.ShloMosaic Idealize.SL.Sem

/-- The kernel's unpacking and packing of bf16 pairs, read as rows: each rewrite is its rule's statement. -/
theorem preserves : Cert.preserves_Kernel_KernelIdeal :=
  ⟨IdealRules.bf16_pair.statement _ _, IdealRules.bf16_pair.packStatement _⟩

/-- On the same arguments the two products are the same array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.Proof.ReferenceIdeal.result m' c = Cert.Proof.KernelIdeal.result m c := by
  have e0 : Cert.Proof.ReferenceIdeal.argX m' c = Cert.Proof.KernelIdeal.argX m c := by
    funext r k
    exact congrFun h0 _
  have e1 : Cert.Proof.ReferenceIdeal.argA m' c = Cert.Proof.KernelIdeal.argA m c := by
    funext s n
    exact congrFun h1 _
  have e2 : Cert.Proof.ReferenceIdeal.argB m' c = Cert.Proof.KernelIdeal.argB m c := by
    funext s n
    exact congrFun h1 _
  have e3 : Cert.Proof.ReferenceIdeal.argD m' c = Cert.Proof.KernelIdeal.argD m c := by
    funext s n
    exact congrFun h2 _
  have e4 : Cert.Proof.ReferenceIdeal.argG m' c = Cert.Proof.KernelIdeal.argG m c := by
    funext e j
    exact congrFun h3 _
  unfold Cert.Proof.ReferenceIdeal.result Cert.Proof.KernelIdeal.result
  rw [e0, e1, e2, e3, e4]

/-- From the same arguments the kernel and the reference end with the same result, their arguments unchanged: over the extended
    reals both results are the product of Proof/Weights.lean. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Proof.KernelIdeal.result m c, ?_, ?_⟩
  · refine (θ_run _ _ _).mono (fun r h c => ?_) (Cert.Proof.KernelIdeal.run m g)
    exact ⟨(h.1 c).1.trans (Cert.Proof.KernelIdeal.arr_val m c), (h.1 c).2⟩
  · refine (θ_run _ _ _).mono (fun r h c => ?_) (Cert.ReferenceIdeal.Value.run_blocks m' g')
    obtain ⟨h0, h1, h2, h3⟩ := hargs c
    exact ⟨(h c).1.trans ((Cert.Proof.ReferenceIdeal.arr_val m' c).trans (result_eq m m' c h0 h1 h2 h3)), (h c).2⟩

theorem claim : Cert.Claim :=
  ⟨Cert.Kernel.Gen.facts, Cert.KernelIdeal.Gen.facts, Cert.ReferenceIdeal.Gen.facts,
    fun m ρ _ => Cert.Proof.Kernel.frame m ρ,
    fun m ρ _ => Cert.Proof.KernelIdeal.frame m ρ,
    fun m ρ _ => Cert.ReferenceIdeal.Gen.frame m ρ,
    preserves, algebraic⟩

end Cert.Proof

end
